-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S8x4096x4224 : Shape := ⟨3, ![8, 4096, 4224]⟩
abbrev S4224x1152 : Shape := ⟨2, ![4224, 1152]⟩
abbrev S_ : Shape := ⟨0, ![]⟩
abbrev S8x4096 : Shape := ⟨2, ![8, 4096]⟩

class Facts : Prop where
  bitsLt_bf16_f32 : FTy.bits .bf16 < FTy.bits .f32
  reducesTo_S8x4096x4224_S8x4096_d2 : S8x4096x4224.ReducesTo [2] S8x4096
  h_S_ : 0 < S_.numel
  reducesTo_S4224x1152_S_d0_1 : S4224x1152.ReducesTo [0, 1] S_
  bcast_S_S8x4096 : S_.BroadcastsInDim S8x4096 (![] : Fin 0 → Fin S8x4096.rank)

variable [Facts]

def fn_part1 {F : FTy → Type} [FloatOps F] (main_v5 : FVec F S_ .f32) (main_v15 : IVec S8x4096 1) (main_v16 : IVec S_ 1) : IVec S8x4096 1 × IVec S_ 1 :=
  let main_cst_6 : FVec F S_ .f32 := constant S_ .f32 0x00000000#32
  let main_v17 : IVec S_ 1 := cmpf .oeq main_v5 main_cst_6
  let main_cst_7 : FVec F S_ .f32 := constant S_ .f32 0x3B124925#32
  let main_v18 : FVec F S_ .f32 := mulf main_v5 main_cst_7
  let main_cst_8 : FVec F S_ .f32 := constant S_ .f32 0x00800000#32
  let main_v19 : IVec S_ 1 := cmpf .oge main_v18 main_cst_8
  let main_v20 : IVec S_ 1 := ori main_v17 main_v19
  let main_v21 : IVec S_ 1 := andi main_v16 main_v20
  (main_v15, main_v21)

def fn {F : FTy → Type} [FloatOps F] (main_arg0 : FVec F S8x4096x4224 .bf16) (main_arg1 : FVec F S4224x1152 .bf16) : IVec S8x4096 1 × IVec S_ 1 :=
  let main_v0 : FVec F S8x4096x4224 .f32 := (extf .f32 · bitsLt_bf16_f32) main_arg0
  let main_v1 : FVec F S8x4096x4224 .f32 := Host.absf main_v0
  let main_cst : FVec F S_ .f32 := constant S_ .f32 0xFF800000#32
  let main_v2 : FVec F S8x4096 .f32 := (fun x v => Host.reduce FloatOps.maximumf x v reducesTo_S8x4096x4224_S8x4096_d2 h_S_) main_v1 main_cst
  let main_v3 : FVec F S4224x1152 .f32 := (extf .f32 · bitsLt_bf16_f32) main_arg1
  let main_v4 : FVec F S4224x1152 .f32 := Host.absf main_v3
  let main_cst_0 : FVec F S_ .f32 := constant S_ .f32 0xFF800000#32
  let main_v5 : FVec F S_ .f32 := (fun x v => Host.reduce FloatOps.maximumf x v reducesTo_S4224x1152_S_d0_1 h_S_) main_v4 main_cst_0
  let main_cst_1 : FVec F S_ .f32 := constant S_ .f32 0x7F7F0000#32
  let main_v6 : FVec F S8x4096 .f32 := broadcastInDim S8x4096 ![] bcast_S_S8x4096 main_cst_1
  let main_v7 : IVec S8x4096 1 := cmpf .ole main_v2 main_v6
  let main_cst_2 : FVec F S_ .f32 := constant S_ .f32 0x00000000#32
  let main_v8 : FVec F S8x4096 .f32 := broadcastInDim S8x4096 ![] bcast_S_S8x4096 main_cst_2
  let main_v9 : IVec S8x4096 1 := cmpf .oeq main_v2 main_v8
  let main_cst_3 : FVec F S_ .f32 := constant S_ .f32 0x37924925#32
  let main_v10 : FVec F S8x4096 .f32 := broadcastInDim S8x4096 ![] bcast_S_S8x4096 main_cst_3
  let main_v11 : FVec F S8x4096 .f32 := mulf main_v2 main_v10
  let main_cst_4 : FVec F S_ .f32 := constant S_ .f32 0x00800000#32
  let main_v12 : FVec F S8x4096 .f32 := broadcastInDim S8x4096 ![] bcast_S_S8x4096 main_cst_4
  let main_v13 : IVec S8x4096 1 := cmpf .oge main_v11 main_v12
  let main_v14 : IVec S8x4096 1 := ori main_v9 main_v13
  let main_v15 : IVec S8x4096 1 := andi main_v7 main_v14
  let main_cst_5 : FVec F S_ .f32 := constant S_ .f32 0x7F7F0000#32
  let main_v16 : IVec S_ 1 := cmpf .ole main_v5 main_cst_5
  fn_part1 (F := F) main_v5 main_v15 main_v16
-- ==== Kernel.lean ====
abbrev S8x4096x4224 : Shape := ⟨3, ![8, 4096, 4224]⟩
abbrev S4224x1152 : Shape := ⟨2, ![4224, 1152]⟩
abbrev S1x1 : Shape := ⟨2, ![1, 1]⟩
abbrev S1152 : Shape := ⟨1, ![1152]⟩
abbrev S1x1152 : Shape := ⟨2, ![1, 1152]⟩
abbrev S1 : Shape := ⟨1, ![1]⟩
abbrev S32768x4224 : Shape := ⟨2, ![32768, 4224]⟩
abbrev S32768x1152 : Shape := ⟨2, ![32768, 1152]⟩
abbrev S64x4x128 : Shape := ⟨3, ![64, 4, 128]⟩
abbrev S512x4224 : Shape := ⟨2, ![512, 4224]⟩
abbrev S512x1152 : Shape := ⟨2, ![512, 1152]⟩
abbrev S1x4x128 : Shape := ⟨3, ![1, 4, 128]⟩
abbrev S512 : Shape := ⟨1, ![512]⟩
abbrev S512x1 : Shape := ⟨2, ![512, 1]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S8x4096x1152 : Shape := ⟨3, ![8, 4096, 1152]⟩
abbrev S8x4096x1 : Shape := ⟨3, ![8, 4096, 1]⟩

abbrev nBuf : Space → Nat
  | .hbm => 11
  | .vmem => 12
  | .smem => 1
  | _ => 0

abbrev bufTy : (tb : Table) → Fin (tcTables nBuf tb) → BufTy
  | .hbm, ⟨0, _⟩ => ⟨S8x4096x4224, .bf16⟩
  | .hbm, ⟨1, _⟩ => ⟨S4224x1152, .bf16⟩
  | .hbm, ⟨2, _⟩ => ⟨S4224x1152, .fp8e4m3⟩
  | .hbm, ⟨3, _⟩ => ⟨S1x1, .f32⟩
  | .hbm, ⟨4, _⟩ => ⟨S32768x4224, .bf16⟩
  | .hbm, ⟨5, _⟩ => ⟨S32768x1152, .bf16⟩
  | .hbm, ⟨6, _⟩ => ⟨S32768x4224, .fp8e5m2⟩
  | .hbm, ⟨7, _⟩ => ⟨S64x4x128, .f32⟩
  | .hbm, ⟨8, _⟩ => ⟨S8x4096x1152, .bf16⟩
  | .hbm, ⟨9, _⟩ => ⟨S8x4096x4224, .fp8e5m2⟩
  | .hbm, ⟨10, _⟩ => ⟨S8x4096x1, .f32⟩
  | .local _ .vmem, ⟨0, _⟩ => ⟨S4224x1152, .bf16⟩
  | .local _ .vmem, ⟨1, _⟩ => ⟨S4224x1152, .fp8e4m3⟩
  | .local _ .vmem, ⟨2, _⟩ => ⟨S1x1, .f32⟩
  | .local _ .vmem, ⟨3, _⟩ => ⟨S512x4224, .bf16⟩
  | .local _ .vmem, ⟨4, _⟩ => ⟨S512x4224, .bf16⟩
  | .local _ .vmem, ⟨5, _⟩ => ⟨S4224x1152, .fp8e4m3⟩
  | .local _ .vmem, ⟨6, _⟩ => ⟨S512x1152, .bf16⟩
  | .local _ .vmem, ⟨7, _⟩ => ⟨S512x1152, .bf16⟩
  | .local _ .vmem, ⟨8, _⟩ => ⟨S512x4224, .fp8e5m2⟩
  | .local _ .vmem, ⟨9, _⟩ => ⟨S512x4224, .fp8e5m2⟩
  | .local _ .vmem, ⟨10, _⟩ => ⟨S1x4x128, .f32⟩
  | .local _ .vmem, ⟨11, _⟩ => ⟨S1x4x128, .f32⟩
  | .local _ .smem, ⟨0, _⟩ => ⟨S1x1, .f32⟩
  | _, _ => ⟨S8x4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S4224x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4224x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4224 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4224x1152 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1152 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4224 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x4096x4224 : Shape := ⟨3, ![8, 4096, 4224]⟩
abbrev S4224x1152 : Shape := ⟨2, ![4224, 1152]⟩
abbrev S8x4096x1152 : Shape := ⟨3, ![8, 4096, 1152]⟩
abbrev S1x1 : Shape := ⟨2, ![1, 1]⟩
abbrev S8x4096x1 : Shape := ⟨3, ![8, 4096, 1]⟩
abbrev S1x4224x1152 : Shape := ⟨3, ![1, 4224, 1152]⟩
abbrev S1 : Shape := ⟨1, ![1]⟩
abbrev S1x1x1 : Shape := ⟨3, ![1, 1, 1]⟩
abbrev S8x4096 : Shape := ⟨2, ![8, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x4224, .bf16⟩
  | .hbm, ⟨1, _⟩ => ⟨S4224x1152, .bf16⟩
  | .hbm, ⟨2, _⟩ => ⟨S8x4096x1152, .bf16⟩
  | .hbm, ⟨3, _⟩ => ⟨S4224x1152, .fp8e4m3⟩
  | .hbm, ⟨4, _⟩ => ⟨S1x1, .f32⟩
  | .hbm, ⟨5, _⟩ => ⟨S8x4096x4224, .fp8e5m2⟩
  | .hbm, ⟨6, _⟩ => ⟨S8x4096x1, .f32⟩
  | .local _ .vmem, ⟨0, _⟩ => ⟨S8x4096x4224, .bf16⟩
  | .local _ .vmem, ⟨1, _⟩ => ⟨S4224x1152, .bf16⟩
  | .local _ .vmem, ⟨2, _⟩ => ⟨S8x4096x1152, .bf16⟩
  | .local _ .vmem, ⟨3, _⟩ => ⟨S4224x1152, .fp8e4m3⟩
  | .local _ .vmem, ⟨4, _⟩ => ⟨S1x1, .f32⟩
  | .local _ .vmem, ⟨5, _⟩ => ⟨S8x4096x4224, .fp8e5m2⟩
  | .local _ .vmem, ⟨6, _⟩ => ⟨S8x4096x1, .f32⟩
  | _, _ => ⟨S8x4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4224x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4224x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x4224 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/- One run of the kernel: every buffer that outlives it ends at the contents the fold over its segments gives. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions and the reshapes between and after them: it terminates without a fault, and the five results hold
    what the last boundary `W4` of the fold says. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v3 (by decide)), h c _ (mem_uc main_v0_0 (by decide)), h c _ (mem_uc main_v0_1 (by decide)),
       h c _ (mem_uc main_v4 (by decide)), h c _ (mem_uc main_v5 (by decide)),
       (h c _ (mem_uc main_arg0 (by decide))).trans (W4_main_arg0 m ρ c),
       (h c _ (mem_uc main_arg1 (by decide))).trans (W4_main_arg1 m ρ c)⟩)

end Cert.KernelIdeal.Value

end
-- ==== Proof.Scale.lean ====
/- The power-of-two scale of a quantiser, over extended reals: the word that a search bit by bit over the exponent field
   ends at, and the same scale as `2 ^ (⌊log₂ x⌋ + 1)`. -/
module

public import Idealize.ShloMosaic.PureOps
public import Idealize.ShloMosaic.PureOps.Ideal
public import Idealize.ShloMosaic.Lib.Pointwise

@[expose] public section

set_option maxRecDepth 16384

noncomputable section

namespace Cert.Scale

open Idealize.ShloMosaic

/-- The f32 word with exponent field `n`, sign and significand zero. -/
def word (n : Nat) : BitVec 32 := BitVec.ofNat 32 (n * 2 ^ 23)

/-- One step of the search: the sum of the word found so far and one exponent bit, where its float is at most `x`. -/
def trial (x : EReal) (b s : BitVec 32) : BitVec 32 :=
  if Ideal.ofBits .f32 (IntOp.addi b s) ≤ x then IntOp.addi b s else b

/-- The search over the eight exponent bits, from the highest. -/
def search (x : EReal) : BitVec 32 :=
  trial x (trial x (trial x (trial x (trial x (trial x (trial x (trial x 0#32 1073741824#32) 536870912#32) 268435456#32)
    134217728#32) 67108864#32) 33554432#32) 16777216#32) 8388608#32

/-- The word of the scale: one binade above `x`, and the word of 1 at `x = 0`. -/
def scaleWord (x : EReal) : BitVec 32 := if x = 0 then 1065353216#32 else IntOp.addi (search x) 8388608#32

/-- The word of the reciprocal of the scale: the exponents of the two words add to 254. -/
def invWord (x : EReal) : BitVec 32 := IntOp.subi 2130706432#32 (scaleWord x)

/-- The exponent as the quantiser is usually written: `⌊log a·c / log 2⌋ + 1`, and 0 at `a = 0`. -/
def expOf (a c : EReal) : EReal :=
  if a = 0 then 0 else
    Ideal.liftRound Int.floor (Ideal.div (Ideal.log (a * c)) (Ideal.log (Ideal.ofBits .f32 0x40000000#32))) + 1

/-- The three fields of `word n`. -/
theorem word_fields : ∀ n : Fin 256, ((word n).extractLsb' 23 8).toNat = n.val ∧ ((word n).extractLsb' 0 23).toNat = 0
    ∧ ((word n).extractLsb' 31 1 == 1#1) = false := by
  unfold word; decide +kernel

/-- The float of `word 0` is 0. -/
theorem ofBits_word_zero : Ideal.ofBits .f32 (word 0) = 0 := by
  obtain ⟨h1, h2, h3⟩ := word_fields 0
  simp [Ideal.ofBits, Ideal.ieee, word]

/-- The float of `word n`, for `0 < n < 255`, is `2 ^ (n - 127)`. -/
theorem ofBits_word {n : Nat} (h0 : 0 < n) (h : n < 255) :
    Ideal.ofBits .f32 (word n) = (((2 : ℝ) ^ ((n : ℤ) - 127) : ℝ) : EReal) := by
  obtain ⟨h1, h2, h3⟩ := word_fields ⟨n, by omega⟩
  have e : ((8388608 : ℝ)) = (2 : ℝ) ^ (23 : ℤ) := by norm_num
  simp only [Ideal.ofBits, Ideal.ieee]
  rw [show (8 + 23 : Nat) = 31 from rfl, h1, h2, h3, if_neg (by show ¬ n = _; omega), if_neg (by show ¬ n = _; omega)]
  congr 1
  norm_num
  rw [e, ← zpow_add₀ (by norm_num)]
  congr 1
  omega

/-- The float of `word 255` is infinite. -/
theorem ofBits_word_top : Ideal.ofBits .f32 (word 255) = ⊤ := by
  simp [Ideal.ofBits, Ideal.ieee, word]

/-- For a real `r` with `2 ^ (k - 127) ≤ r < 2 ^ (k - 126)`, the float of `word n` is at most `r` where `n ≤ k`. -/
theorem ofBits_word_le {k n : Nat} {r : ℝ} (hk0 : 0 < k) (hk : k < 255) (hn : n < 256)
    (hl : (2 : ℝ) ^ ((k : ℤ) - 127) ≤ r) (hu : r < (2 : ℝ) ^ ((k : ℤ) - 126)) :
    Ideal.ofBits .f32 (word n) ≤ (r : EReal) ↔ n ≤ k := by
  have hpos : (0 : ℝ) < 2 ^ ((k : ℤ) - 127) := by positivity
  rcases Nat.eq_zero_or_pos n with rfl | h0
  · rw [ofBits_word_zero]
    exact ⟨fun _ => by omega, fun _ => by exact_mod_cast (hpos.trans_le hl).le⟩
  rcases Nat.lt_or_ge n 255 with h | h
  · rw [ofBits_word h0 h, EReal.coe_le_coe_iff]
    constructor
    · intro hle
      have := (zpow_lt_zpow_iff_right₀ (by norm_num : (1 : ℝ) < 2)).mp (hle.trans_lt hu)
      omega
    · intro hle
      exact le_trans ((zpow_le_zpow_iff_right₀ (by norm_num : (1 : ℝ) < 2)).mpr (by omega)) hl
  · obtain rfl : n = 255 := by omega
    rw [ofBits_word_top]
    constructor
    · intro hle; exact absurd (top_le_iff.mp hle) (EReal.coe_ne_top r)
    · omega

/-- The words add as their exponent fields do. -/
theorem addi_word (a b : Nat) : IntOp.addi (word a) (word b) = word (a + b) := by
  unfold word
  show BitVec.ofNat 32 _ + BitVec.ofNat 32 _ = _
  rw [← BitVec.ofNat_add, Nat.add_mul]

/-- One step of the search, over the exponent fields. -/
theorem trial_word {k n s : Nat} {r : ℝ} (hk0 : 0 < k) (hk : k < 255) (hn : n + s < 256)
    (hl : (2 : ℝ) ^ ((k : ℤ) - 127) ≤ r) (hu : r < (2 : ℝ) ^ ((k : ℤ) - 126)) :
    trial (r : EReal) (word n) (word s) = word (if n + s ≤ k then n + s else n) := by
  unfold trial
  rw [addi_word]
  simp only [ofBits_word_le hk0 hk hn hl hu]
  split_ifs <;> rfl

/-- A binary search over eight bits finds its number. -/
def natStep (k n s : Nat) : Nat := if n + s ≤ k then n + s else n

theorem natStep_le (k n s : Nat) : natStep k n s ≤ n + s := by unfold natStep; split_ifs <;> omega

theorem natSearch : ∀ k : Fin 256, natStep k (natStep k (natStep k (natStep k (natStep k (natStep k (natStep k (natStep k 0 128) 64) 32)
    16) 8) 4) 2) 1 = k.val := by
  unfold natStep; decide +kernel

/-- The search ends at the word whose exponent field is that of `r`. -/
theorem search_eq {k : Nat} {r : ℝ} (hk0 : 0 < k) (hk : k < 255)
    (hl : (2 : ℝ) ^ ((k : ℤ) - 127) ≤ r) (hu : r < (2 : ℝ) ^ ((k : ℤ) - 126)) : search (r : EReal) = word k := by
  have T : ∀ {n s : Nat}, n + s < 256 → trial (r : EReal) (word n) (word s) = word (natStep k n s) :=
    fun h => trial_word hk0 hk h hl hu
  unfold search
  rw [show 0#32 = word 0 from rfl, show 1073741824#32 = word 128 from rfl, show 536870912#32 = word 64 from rfl,
    show 268435456#32 = word 32 from rfl, show 134217728#32 = word 16 from rfl, show 67108864#32 = word 8 from rfl,
    show 33554432#32 = word 4 from rfl, show 16777216#32 = word 2 from rfl, show 8388608#32 = word 1 from rfl]
  have b1 := natStep_le k 0 128
  have b2 := natStep_le k (natStep k 0 128) 64
  have b3 := natStep_le k (natStep k (natStep k 0 128) 64) 32
  have b4 := natStep_le k (natStep k (natStep k (natStep k 0 128) 64) 32) 16
  have b5 := natStep_le k (natStep k (natStep k (natStep k (natStep k 0 128) 64) 32) 16) 8
  have b6 := natStep_le k (natStep k (natStep k (natStep k (natStep k (natStep k 0 128) 64) 32) 16) 8) 4
  have b7 := natStep_le k (natStep k (natStep k (natStep k (natStep k (natStep k (natStep k 0 128) 64) 32) 16) 8) 4) 2
  rw [T (by omega), T (by omega), T (by omega), T (by omega), T (by omega), T (by omega), T (by omega), T (by omega)]
  exact congrArg word (natSearch ⟨k, by omega⟩)

/-- The scale's word for a real in the binade of exponent field `k`. -/
theorem scaleWord_eq {k : Nat} {r : ℝ} (hk0 : 0 < k) (hk : k < 255)
    (hl : (2 : ℝ) ^ ((k : ℤ) - 127) ≤ r) (hu : r < (2 : ℝ) ^ ((k : ℤ) - 126)) : scaleWord (r : EReal) = word (k + 1) := by
  have hpos : (0 : ℝ) < 2 ^ ((k : ℤ) - 127) := by positivity
  have hr : (r : EReal) ≠ 0 := by exact_mod_cast (hpos.trans_le hl).ne'
  unfold scaleWord
  rw [if_neg hr, search_eq hk0 hk hl hu, show 8388608#32 = word 1 from rfl, addi_word]

/-- The reciprocal's word for a real in the binade of exponent field `k`. -/
theorem invWord_eq {k : Nat} {r : ℝ} (hk0 : 0 < k) (hk : k < 254)
    (hl : (2 : ℝ) ^ ((k : ℤ) - 127) ≤ r) (hu : r < (2 : ℝ) ^ ((k : ℤ) - 126)) : invWord (r : EReal) = word (253 - k) := by
  unfold invWord
  rw [scaleWord_eq hk0 (by omega) hl hu]
  have e : (2130706432#32) = IntOp.addi (word (253 - k)) (word (k + 1)) := by
    rw [addi_word, show 253 - k + (k + 1) = 254 by omega]; rfl
  rw [e]
  show word (253 - k) + word (k + 1) - word (k + 1) = _
  exact BitVec.add_sub_cancel _ _

/-- The float 2. -/
theorem ofBits_two : Ideal.ofBits .f32 0x40000000#32 = ((2 : ℝ) : EReal) := by
  simp [Ideal.ofBits, Ideal.ieee, -EReal.coe_mul]; norm_num

/-- The exponent as usually written, at a real `r` in the binade of exponent field `k`. -/
theorem floor_log {k : Nat} {r : ℝ} (hl : (2 : ℝ) ^ ((k : ℤ) - 127) ≤ r) (hu : r < (2 : ℝ) ^ ((k : ℤ) - 126)) :
    Ideal.liftRound Int.floor (Ideal.div (Ideal.log (r : EReal)) (Ideal.log (Ideal.ofBits .f32 0x40000000#32))) + 1
      = ((((k : ℤ) - 126 : ℤ) : ℝ) : EReal) := by
  have hpos : (0 : ℝ) < 2 ^ ((k : ℤ) - 127) := by positivity
  have hr : 0 < r := hpos.trans_le hl
  have hlog2 : Real.log 2 ≠ 0 := (Real.log_pos (by norm_num)).ne'
  have hlog2' : 0 < Real.log 2 := Real.log_pos (by norm_num)
  have hfl : ⌊Real.log r / Real.log 2⌋ = (k : ℤ) - 127 := by
    rw [Int.floor_eq_iff]
    have g1 := Real.log_le_log hpos hl
    have g2 := Real.log_lt_log hr hu
    rw [Real.log_zpow] at g1 g2
    constructor
    · rw [le_div_iff₀ hlog2']; exact g1
    · rw [div_lt_iff₀ hlog2']; push_cast at g2 ⊢; linarith
  have e1 : Ideal.log (r : EReal) = ((Real.log r : ℝ) : EReal) := if_neg (not_le.mpr hr)
  have e2 : Ideal.log (((2 : ℝ) : ℝ) : EReal) = ((Real.log 2 : ℝ) : EReal) := if_neg (by norm_num)
  rw [ofBits_two, e1, e2]
  unfold Ideal.div
  rw [if_neg (by exact_mod_cast hlog2), ← EReal.coe_inv, ← EReal.coe_mul, ← div_eq_mul_inv]
  show (((⌊Real.log r / Real.log 2⌋ : ℤ) : ℝ) : EReal) + ((1 : ℝ) : EReal) = _
  rw [hfl, ← EReal.coe_add]
  congr 1
  push_cast; ring

/-- Two to an integer. -/
theorem exp2_int (e : ℤ) : Ideal.exp2 (((e : ℤ) : ℝ) : EReal) = (((2 : ℝ) ^ e : ℝ) : EReal) :=
  congrArg Real.toEReal (Real.rpow_intCast 2 e)

/-- Where the scale is a normal number: either the largest magnitude `a` is 0, or `a · c` is in the binades of the normal f32 numbers
    whose scale has a normal reciprocal. -/
def Normal (a c : EReal) : Prop :=
  a = 0 ∨ ∃ r : ℝ, a * c = (r : EReal) ∧ (2 : ℝ) ^ (-126 : ℤ) ≤ r ∧ r < (2 : ℝ) ^ (126 : ℤ)

/-- The binade of a positive normal real. -/
theorem exists_binade {r : ℝ} (hl : (2 : ℝ) ^ (-126 : ℤ) ≤ r) (hu : r < (2 : ℝ) ^ (126 : ℤ)) :
    ∃ k : Nat, 0 < k ∧ k < 253 ∧ (2 : ℝ) ^ ((k : ℤ) - 127) ≤ r ∧ r < (2 : ℝ) ^ ((k : ℤ) - 126) := by
  have hpos : (0 : ℝ) < 2 ^ (-126 : ℤ) := by positivity
  have hr : 0 < r := hpos.trans_le hl
  obtain ⟨e, h3, h4⟩ := exists_mem_Ico_zpow hr (by norm_num : (1 : ℝ) < 2)
  have h1 := (zpow_lt_zpow_iff_right₀ (by norm_num : (1 : ℝ) < 2)).mp (hl.trans_lt h4)
  have h2 := (zpow_lt_zpow_iff_right₀ (by norm_num : (1 : ℝ) < 2)).mp (h3.trans_lt hu)
  refine ⟨(e + 127).toNat, by omega, by omega, ?_, ?_⟩
  · rw [show (((e + 127).toNat : ℕ) : ℤ) - 127 = e by omega]; exact h3
  · rw [show (((e + 127).toNat : ℕ) : ℤ) - 126 = e + 1 by omega]; exact h4

/-- THE SCALE: the float of the word found is two to the exponent. -/
theorem scale_eq {a c : EReal} (h : Normal a c) : Ideal.ofBits .f32 (scaleWord (a * c)) = Ideal.exp2 (expOf a c) := by
  by_cases ha : a = 0
  · subst ha
    rw [zero_mul, show scaleWord 0 = word 127 from if_pos rfl, ofBits_word (by norm_num) (by norm_num),
      show expOf 0 c = (((0 : ℤ) : ℝ) : EReal) by simp [expOf], exp2_int]
    norm_num
  · obtain ⟨r, hr, hl, hu⟩ := h.resolve_left ha
    obtain ⟨k, hk0, hk, h1, h2⟩ := exists_binade hl hu
    unfold expOf
    rw [if_neg ha, hr, floor_log h1 h2, scaleWord_eq hk0 (by omega) h1 h2, ofBits_word (by omega) (by omega), exp2_int]
    congr 2; push_cast; ring

/-- THE RECIPROCAL: the float of its word is two to minus the exponent. -/
theorem inv_eq {a c : EReal} (h : Normal a c) : Ideal.ofBits .f32 (invWord (a * c)) = Ideal.exp2 (0 - expOf a c) := by
  have hneg : ∀ e : ℤ, (0 : EReal) - (((e : ℤ) : ℝ) : EReal) = (((-e : ℤ) : ℝ) : EReal) := fun e => by
    rw [zero_sub, ← EReal.coe_neg]; push_cast; rfl
  by_cases ha : a = 0
  · subst ha
    rw [zero_mul, show invWord 0 = word 127 by unfold invWord; rw [show scaleWord 0 = word 127 from if_pos rfl]; decide,
      ofBits_word (by norm_num) (by norm_num),
      show expOf 0 c = (((0 : ℤ) : ℝ) : EReal) by simp [expOf], hneg, exp2_int]
    norm_num
  · obtain ⟨r, hr, hl, hu⟩ := h.resolve_left ha
    obtain ⟨k, hk0, hk, h1, h2⟩ := exists_binade hl hu
    unfold expOf
    rw [if_neg ha, hr, floor_log h1 h2, invWord_eq hk0 (by omega) h1 h2, ofBits_word (by omega) (by omega), hneg, exp2_int]
    congr 2; omega

end Cert.Scale

end
-- ==== Proof.Spec.lean ====
/- What the five results hold, at one index, over extended reals: the quantiser's codes with its scale as a power of two, and the
   product of the codes times both scales. -/
module

public import proofs.«01_k».proof.Proof.Scale

@[expose] public section

set_option maxRecDepth 16384

noncomputable section

namespace Cert.Spec

open Idealize.ShloMosaic Cert.Scale

/-- The largest magnitude of finitely many numbers. -/
def amax {n : Nat} (v : Fin n → EReal) : EReal :=
  Finset.univ.fold max ⊥ fun j => FloatOps.absf (F := Ideal) (φ := .f32) (v j)

/-- The largest magnitude of a matrix, column by column. -/
def amax2 {n k : Nat} (w : Fin n → Fin k → EReal) : EReal :=
  Finset.univ.fold max ⊥ fun j => Finset.univ.fold max ⊥ fun i => FloatOps.absf (F := Ideal) (φ := .f32) (w i j)

/-- The f32 nearest 1/57344. -/
abbrev c5 : EReal := Ideal.ofBits .f32 932333861#32
/-- The f32 nearest 1/448. -/
abbrev c4 : EReal := Ideal.ofBits .f32 991054117#32

/-- An e5m2 code: the number times the reciprocal scale, clipped to ±57344. -/
def code5 (x inv : EReal) : EReal := min (Ideal.ofBits .f32 1197473792#32) (max (Ideal.ofBits .f32 3344957440#32) (x * inv))
/-- An e4m3 code: the number times the reciprocal scale, clipped to ±448. -/
def code4 (x inv : EReal) : EReal := min (Ideal.ofBits .f32 1138753536#32) (max (Ideal.ofBits .f32 3286237184#32) (x * inv))

/-- The scale of a row, and its reciprocal. -/
def rowScale {n : Nat} (v : Fin n → EReal) : EReal := Ideal.exp2 (expOf (amax v) c5)
def rowInv {n : Nat} (v : Fin n → EReal) : EReal := Ideal.exp2 (0 - expOf (amax v) c5)
/-- The scale of a matrix, and its reciprocal. -/
def matScale {n k : Nat} (w : Fin n → Fin k → EReal) : EReal := Ideal.exp2 (expOf (amax2 w) c4)
def matInv {n k : Nat} (w : Fin n → Fin k → EReal) : EReal := Ideal.exp2 (0 - expOf (amax2 w) c4)

/-- The same four as floats of the words the search finds. -/
def rowScaleW {n : Nat} (v : Fin n → EReal) : EReal := Ideal.ofBits .f32 (scaleWord (amax v * c5))
def rowInvW {n : Nat} (v : Fin n → EReal) : EReal := Ideal.ofBits .f32 (invWord (amax v * c5))
def matScaleW {n k : Nat} (w : Fin n → Fin k → EReal) : EReal := Ideal.ofBits .f32 (scaleWord (amax2 w * c4))
def matInvW {n k : Nat} (w : Fin n → Fin k → EReal) : EReal := Ideal.ofBits .f32 (invWord (amax2 w * c4))

theorem rowScaleW_eq {n : Nat} {v : Fin n → EReal} (h : Normal (amax v) c5) : rowScaleW v = rowScale v := scale_eq h
theorem rowInvW_eq {n : Nat} {v : Fin n → EReal} (h : Normal (amax v) c5) : rowInvW v = rowInv v := inv_eq h
theorem matScaleW_eq {n k : Nat} {w : Fin n → Fin k → EReal} (h : Normal (amax2 w) c4) : matScaleW w = matScale w := scale_eq h
theorem matInvW_eq {n k : Nat} {w : Fin n → Fin k → EReal} (h : Normal (amax2 w) c4) : matInvW w = matInv w := inv_eq h

/-- The word of minus infinity, in both formats. -/
theorem ofBits_bot16 : Ideal.ofBits .bf16 65408#16 = ⊥ := by simp [Ideal.ofBits, Ideal.ieee]
theorem ofBits_bot32 : Ideal.ofBits .f32 4286578688#32 = ⊥ := by simp [Ideal.ofBits, Ideal.ieee]

/-- The magnitude is the same in both formats. -/
theorem absf_bf16 (x : EReal) : FloatOps.absf (F := Ideal) (φ := .bf16) x = FloatOps.absf (F := Ideal) (φ := .f32) x := rfl

end Cert.Spec

end
-- ==== Proof.KernelTrial.lean ====
/- One step of the kernel's exponent search over a vector, and seven steps in a row, read at one index. -/
module

public import Idealize.ShloMosaic.Lib.Pointwise
public import proofs.«01_k».proof.Proof.Spec

@[expose] public section

set_option maxRecDepth 16384

noncomputable section

namespace Cert.KernelIdeal.Pay

open Idealize.ShloMosaic Cert.Scale Cert.Spec

/-- One step of the search, over a vector. -/
def vtrial {S : Shape} (x : FVec Ideal S .f32) (b : IVec S 32) (s : BitVec 32) : IVec S 32 :=
  select (cmpf .ogt (bitcastToFloat .f32 (addi b (broadcast S s))) x) b (addi b (broadcast S s))

/-- A step of the search keeps the old word where the trial's float is the larger. -/
theorem trial_eq (x : EReal) (b s : BitVec 32) :
    trial x b s = if x < Ideal.ofBits .f32 (IntOp.addi b s) then b else IntOp.addi b s := by
  unfold trial
  by_cases h : Ideal.ofBits .f32 (IntOp.addi b s) ≤ x
  · rw [if_pos h, if_neg (not_lt.mpr h)]
  · rw [if_neg h, if_pos (not_le.mp h)]

theorem vtrial_at {S : Shape} (x : FVec Ideal S .f32) (b : IVec S 32) (s : BitVec 32) (i : S.Idx) :
    vtrial x b s i = trial (x i) (b i) s := by
  refine Eq.trans ?_ (trial_eq (x i) (b i) s).symm
  pointwise [vtrial]

/-- The search's first seven steps, over a vector. -/
def vsearch7 {S : Shape} (x : FVec Ideal S .f32) : IVec S 32 :=
  vtrial x (vtrial x (vtrial x (vtrial x (vtrial x (vtrial x (vtrial x (broadcast S 0#32) 1073741824#32) 536870912#32) 268435456#32)
    134217728#32) 67108864#32) 33554432#32) 16777216#32

/-- The same seven steps, over one number. -/
def search7 (x : EReal) : BitVec 32 :=
  trial x (trial x (trial x (trial x (trial x (trial x (trial x 0#32 1073741824#32) 536870912#32) 268435456#32)
    134217728#32) 67108864#32) 33554432#32) 16777216#32

theorem vsearch7_at {S : Shape} (x : FVec Ideal S .f32) (i : S.Idx) : vsearch7 x i = search7 (x i) := by
  unfold vsearch7 search7
  simp only [vtrial_at]
  rfl

/-- The eighth step, one binade up, and the word of 1 at zero: the scale's word. -/
theorem scaleWord_of_search7 (x : EReal) :
    (if x = 0 then 1065353216#32 else IntOp.addi (if x < Ideal.ofBits .f32 (IntOp.addi (search7 x) 8388608#32)
      then search7 x else IntOp.addi (search7 x) 8388608#32) 8388608#32) = scaleWord x := by
  unfold scaleWord search
  rw [show trial x (trial x (trial x (trial x (trial x (trial x (trial x 0#32 1073741824#32) 536870912#32) 268435456#32)
    134217728#32) 67108864#32) 33554432#32) 16777216#32 = search7 x from rfl, trial_eq]

end Cert.KernelIdeal.Pay

end
-- ==== Proof.WeightPay.lean ====
/- What the weight's body computes, read at one index: the scale's word, the scale and the codes. -/
module

public import proofs.«01_k».proof.Proof.Gen.KernelIdeal.Skeleton
public import proofs.«01_k».proof.Proof.KernelTrial

@[expose] public section

set_option maxRecDepth 16384

noncomputable section

namespace Cert.KernelIdeal.Pay

open Idealize.ShloMosaic Idealize.ShloMosaic.TcCoe Idealize.SL.Sem
open Cert.KernelIdeal Cert.KernelIdeal.Gen Cert.Scale Cert.Spec
open Cert.KernelIdeal.Facts

/-- The search's first seven steps. -/
theorem k0_pay5_eq (v0 : FVec Ideal S4224x1152 .bf16) : k0_pay5 (F := Ideal) v0 = vsearch7 (k0_pay4 v0) := by
  have hv : ∀ (x : FVec Ideal S1x1 .f32) (b : IVec S1x1 32) (s : BitVec 32),
      select (cmpf .ogt (bitcastToFloat .f32 (addi b (broadcast S1x1 s))) x) b (addi b (broadcast S1x1 s)) = vtrial x b s := fun _ _ _ => rfl
  unfold k0_pay5 vsearch7
  simp only [hv]

/-- The scale's word from what the search found. -/
theorem k0_pay1_var (v8 : FVec Ideal S1x1 .f32) (v44 v45 : IVec S1x1 32) (i j : Fin 1) :
    k0_pay1 (F := Ideal) v8 v44 v45 (ix2 i j) = if v8 (ix2 i j) = 0 then 1065353216#32 else
      IntOp.addi (if v8 (ix2 i j) < Ideal.ofBits .f32 (IntOp.addi (v44 (ix2 i j)) (v45 (ix2 i j)))
        then v44 (ix2 i j) else IntOp.addi (v44 (ix2 i j)) (v45 (ix2 i j))) 8388608#32 := by
  pointwise [k0_pay1]

/-- The lowest exponent bit. -/
theorem k0_pay6_at (i j : Fin 1) : k0_pay6 (ix2 i j) = 8388608#32 := rfl

/-- The largest magnitude of each column. -/
theorem colmax_at (v0 : FVec Ideal S4224x1152 .bf16) (b : Fin 1152) :
    multiReduction .maximumf [0] S1152 (absf v0) 0xFF80#16 reduces_S4224x1152_S1152 (.inr rfl) rfl (ix1 b)
      = Finset.univ.fold max ⊥ fun a => FloatOps.absf (F := Ideal) (φ := .f32) (v0 (ix2 a b)) := by
  pointwise
  rw [ofBits_bot16]
  exact congrArg (fun f : Fin 4224 → EReal => Finset.univ.fold max ⊥ f) (funext fun a => absf_bf16 _)

/-- The largest of one row. -/
theorem lanemax_at (v4 : FVec Ideal S1x1152 .f32) (i : Fin 1) :
    multiReduction .maximumf [1] S1 v4 0xFF800000#32 reduces_S1x1152_S1 (.inl rfl) rfl (ix1 i)
      = Finset.univ.fold max ⊥ fun b => v4 (ix2 0 b) := by
  obtain rfl := Subsingleton.elim i 0
  pointwise
  rw [ofBits_bot32]

/-- A vector of columns as one row. -/
theorem row_at (v2 : FVec Ideal S1152 .bf16) (i : Fin 1) (b : Fin 1152) :
    extf .f32 (shapeCast S1x1152 v2 shapeCasts_S1152_S1x1152) bitsLt_bf16_f32 (ix2 i b) = v2 (ix1 b) := by
  pointwise

/-- One element times the f32 nearest 1/448. -/
theorem scaled_at (v5 : FVec Ideal S1 .f32) (i j : Fin 1) :
    mulf (shapeCast S1x1 v5 shapeCasts_S1_S1x1) (broadcast S1x1 (Scalar.ofBits .f32 0x3B124925#32)) (ix2 i j)
      = (show EReal from v5 (ix1 0)) * c4 := by
  obtain rfl := Subsingleton.elim i 0
  obtain rfl := Subsingleton.elim j 0
  pointwise

/-- The operations before the search, as one term. -/
theorem k0_pay4_eq (v0 : FVec Ideal S4224x1152 .bf16) :
    k0_pay4 (F := Ideal) v0 = mulf (shapeCast S1x1 (multiReduction .maximumf [1] S1 (extf .f32 (shapeCast S1x1152
      (multiReduction .maximumf [0] S1152 (absf v0) 0xFF80#16 reduces_S4224x1152_S1152 (.inr rfl) rfl) shapeCasts_S1152_S1x1152)
      bitsLt_bf16_f32) 0xFF800000#32 reduces_S1x1152_S1 (.inl rfl) rfl) shapeCasts_S1_S1x1)
      (broadcast S1x1 (Scalar.ofBits .f32 0x3B124925#32)) := rfl

/-- The weight's largest magnitude times the f32 nearest 1/448. -/
theorem k0_pay4_at (v0 : FVec Ideal S4224x1152 .bf16) (i j : Fin 1) :
    k0_pay4 (F := Ideal) v0 (ix2 i j) = amax2 (fun a b => v0 (ix2 a b)) * c4 := by
  rw [k0_pay4_eq, scaled_at, lanemax_at]
  simp only [row_at]
  rw [amax2]
  exact congrArg (fun f : Fin 1152 → EReal => Finset.univ.fold max ⊥ f * c4) (funext fun b => colmax_at v0 b)

/-- The weight's scale word. -/
theorem k0_pay1_at (v0 : FVec Ideal S4224x1152 .bf16) (i j : Fin 1) :
    k0_pay1 (F := Ideal) (k0_pay4 v0) (k0_pay5 (F := Ideal) v0) k0_pay6 (ix2 i j) = scaleWord (amax2 (fun a b => v0 (ix2 a b)) * c4) := by
  rw [k0_pay1_var, k0_pay6_at, k0_pay5_eq, vsearch7_at, scaleWord_of_search7, k0_pay4_at]

/-- The weight's scale. -/
theorem k0_pay2_at (v0 : FVec Ideal S4224x1152 .bf16) (i j : Fin 1) :
    k0_pay2 (F := Ideal) (k0_pay4 v0) (k0_pay5 (F := Ideal) v0) k0_pay6 (ix2 i j) = matScaleW (fun a b => v0 (ix2 a b)) :=
  congrArg (Ideal.ofBits .f32) (k0_pay1_at v0 i j)

/-- The codes from the reciprocal scale's word. -/
theorem k0_pay3_var (v8 : FVec Ideal S1x1 .f32) (v44 v45 : IVec S1x1 32) (v0 : FVec Ideal S4224x1152 .bf16) (i : Fin 4224) (j : Fin 1152) :
    k0_pay3 (F := Ideal) v8 v44 v45 v0 (ix2 i j)
      = code4 (v0 (ix2 i j)) (Ideal.ofBits .f32 (IntOp.subi 2130706432#32 (k0_pay1 (F := Ideal) v8 v44 v45 (ix2 0 0)))) := by
  unfold k0_pay3
  generalize k0_pay1 (F := Ideal) v8 v44 v45 = p
  pointwise [code4]

/-- The weight's codes. -/
theorem k0_pay3_at (v0 : FVec Ideal S4224x1152 .bf16) (i : Fin 4224) (j : Fin 1152) :
    k0_pay3 (F := Ideal) (k0_pay4 v0) (k0_pay5 (F := Ideal) v0) k0_pay6 v0 (ix2 i j)
      = code4 (v0 (ix2 i j)) (matInvW (fun a b => v0 (ix2 a b))) := by
  rw [k0_pay3_var, k0_pay1_at]
  unfold matInvW invWord
  rfl

end Cert.KernelIdeal.Pay

end
-- ==== Proof.WeightRegion.lean ====
/- What the weight's region leaves in its two arrays. -/
module

public import proofs.«01_k».proof.Proof.Gen.KernelIdeal.Frame
public import Idealize.ShloMosaic.Lib.Pipeline.ValueKit
public import proofs.«01_k».proof.Proof.WeightPay

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Pay Cert.Spec

variable (V : (c : Dev nD) → (b : Ref sig .tc) → Buf (Elt Ideal) ((c : Thread nD τ).loc b))

/-- Every block of the weight's region is its whole array. -/
theorem idx0 : ∀ t : Fin cfg0.N, win0_0.index t = ![0, 0] ∧ win0_1.index t = ![0, 0] ∧ win0_2.index t = ![0, 0] :=
  (by decide +kernel : ∀ t : Fin grid0.N, _)

/-- The weight, as the region reads it. -/
theorem block0 (c : Dev nD) (t : Fin cfg0.N) : (iblk0 V c 0 t : FVec Ideal S4224x1152 .bf16) = V c main_arg1 := by
  funext y
  blk_ext [iblk0, idx0 t]

/-- What the body's first payloads are: it reads the whole block. -/
theorem pay7_eq (x : FVec Ideal S4224x1152 .bf16) : k0_pay7 (F := Ideal) x = k0_pay4 x := by
  have hz : (![0, 0] : Fin 2 → Nat) = fun _ => 0 := funext fun a => by fin_cases a <;> rfl
  unfold k0_pay7
  rw [View.ld_unit_zero hz]
theorem pay8_eq (x : FVec Ideal S4224x1152 .bf16) : k0_pay8 (F := Ideal) x = k0_pay5 (F := Ideal) x := by
  have hz : (![0, 0] : Fin 2 → Nat) = fun _ => 0 := funext fun a => by fin_cases a <;> rfl
  unfold k0_pay8
  rw [View.ld_unit_zero hz]
theorem pay9_eq (x : FVec Ideal S4224x1152 .bf16) : k0_pay9 (F := Ideal) x = k0_pay6 := rfl

/-- The codes left by the body. -/
theorem out0_1_at (x : FVec Ideal S4224x1152 .bf16) (y : S4224x1152.Idx) :
    out0_1 (F := Ideal) x y = code4 (x y) (matInvW fun a b => x (ix2 a b)) := by
  idx_vars y
  frame_out
  rw [pay7_eq, pay8_eq, pay9_eq]
  exact k0_pay3_at x y0 y1

/-- The scale left by the body. -/
theorem out0_2_at (x : FVec Ideal S4224x1152 .bf16) (y : S1x1.Idx) :
    out0_2 (F := Ideal) x y = matScaleW fun a b => x (ix2 a b) := by
  idx_vars y
  frame_out
  rw [pay7_eq, pay8_eq, pay9_eq]
  exact k0_pay2_at x y0 y1

/-- The array of codes after the region. -/
theorem codes0 (c : Dev nD) : (dat0 V c).arrAt 1 cfg0.N
    = fun i => code4 (V c main_arg1 i) (matInvW fun a b => V c main_arg1 (ix2 a b)) := by
  refine (dat0 V c).arrAt_eq_of_covers 1 _ (by decide +kernel) fun t _ y => ?_
  blk_simp
  rw [after0_1, block0]
  refine (out0_1_at _ y).trans ?_
  refine congrArg (fun e : EReal => code4 e _) ?_
  blk_ext [idx0 t]

/-- The scale's array after the region. -/
theorem scale0 (c : Dev nD) : (dat0 V c).arrAt 2 cfg0.N
    = fun i => matScaleW fun a b => V c main_arg1 (ix2 a b) := by
  refine (dat0 V c).arrAt_eq_of_covers 2 _ (by decide +kernel) fun t _ y => ?_
  blk_simp
  rw [after0_2, block0]
  exact out0_2_at _ y

end Cert.KernelIdeal.Value

end
-- ==== Proof.RowPay.lean ====
/- What one block of rows computes, read at one index: the scales' words, the scales, the codes and the product. -/
module

public import proofs.«01_k».proof.Proof.Gen.KernelIdeal.Skeleton
public import proofs.«01_k».proof.Proof.KernelTrial

@[expose] public section

set_option maxRecDepth 16384

noncomputable section

namespace Cert.KernelIdeal.Pay

open Idealize.ShloMosaic Idealize.ShloMosaic.TcCoe Idealize.SL.Sem
open Cert.KernelIdeal Cert.KernelIdeal.Gen Cert.Scale Cert.Spec
open Cert.KernelIdeal.Facts

/-- The search's first seven steps, a row at a time. -/
theorem k1_pay6_eq (v0 : FVec Ideal S512x4224 .bf16) : k1_pay6 (F := Ideal) v0 = vsearch7 (k1_pay5 v0) := by
  have hv : ∀ (x : FVec Ideal S512x1 .f32) (b : IVec S512x1 32) (s : BitVec 32),
      select (cmpf .ogt (bitcastToFloat .f32 (addi b (broadcast S512x1 s))) x) b (addi b (broadcast S512x1 s)) = vtrial x b s := fun _ _ _ => rfl
  unfold k1_pay6 vsearch7
  simp only [hv]

/-- The scale's word from what the search found. -/
theorem k1_pay8_var (v7 : FVec Ideal S512x1 .f32) (v43 v45 : IVec S512x1 32) (i : Fin 512) (j : Fin 1) :
    k1_pay8 (F := Ideal) v7 v43 v45 (ix2 i j) = if v7 (ix2 i j) = 0 then 1065353216#32 else
      IntOp.addi (if v7 (ix2 i j) < Ideal.ofBits .f32 (v45 (ix2 i j))
        then v43 (ix2 i j) else v45 (ix2 i j)) 8388608#32 := by
  pointwise [k1_pay8]

/-- The eighth step's trial word. -/
theorem k1_pay7_at (v0 : FVec Ideal S512x4224 .bf16) (i : Fin 512) (j : Fin 1) :
    k1_pay7 (F := Ideal) v0 (ix2 i j) = IntOp.addi (k1_pay6 (F := Ideal) v0 (ix2 i j)) 8388608#32 := by
  unfold k1_pay7
  generalize k1_pay6 (F := Ideal) v0 = p
  pointwise

/-- The largest magnitude of each row. -/
theorem rowmax_at (v0 : FVec Ideal S512x4224 .bf16) (i : Fin 512) :
    multiReduction .maximumf [1] S512 (absf v0) 0xFF80#16 reduces_S512x4224_S512 (.inr rfl) rfl (ix1 i)
      = Finset.univ.fold max ⊥ fun a => FloatOps.absf (F := Ideal) (φ := .bf16) (v0 (ix2 i a)) := by
  pointwise
  rw [ofBits_bot16]

/-- A column of numbers times the f32 nearest 1/57344. -/
theorem scaledRow_at (v3 : FVec Ideal S512 .bf16) (i : Fin 512) (j : Fin 1) :
    mulf (extf .f32 (shapeCast S512x1 v3 shapeCasts_S512_S512x1) bitsLt_bf16_f32) (broadcast S512x1 (Scalar.ofBits .f32 0x37924925#32)) (ix2 i j)
      = (show EReal from v3 (ix1 i)) * c5 := by
  pointwise

/-- A reshape to the same shape. -/
theorem k1_pay4_eq (v0 : FVec Ideal S512x4224 .bf16) : k1_pay4 (F := Ideal) v0 = v0 := shapeCast_id _ _

/-- A row's largest magnitude times the f32 nearest 1/57344. -/
theorem k1_pay5_at (v0 : FVec Ideal S512x4224 .bf16) (i : Fin 512) (j : Fin 1) :
    k1_pay5 (F := Ideal) v0 (ix2 i j) = amax (fun k => v0 (ix2 i k)) * c5 := by
  unfold k1_pay5
  rw [k1_pay4_eq]
  exact (scaledRow_at _ i j).trans (congrArg (fun e : EReal => e * c5) (rowmax_at v0 i))

/-- A row's scale word. -/
theorem k1_pay8_at (v0 : FVec Ideal S512x4224 .bf16) (i : Fin 512) (j : Fin 1) :
    k1_pay8 (F := Ideal) (k1_pay5 v0) (k1_pay6 (F := Ideal) v0) (k1_pay7 (F := Ideal) v0) (ix2 i j)
      = scaleWord (amax (fun k => v0 (ix2 i k)) * c5) := by
  rw [k1_pay8_var, k1_pay7_at, k1_pay6_eq, vsearch7_at, scaleWord_of_search7, k1_pay5_at]

/-- A row's scale. -/
theorem k1_pay9_at (v0 : FVec Ideal S512x4224 .bf16) (i : Fin 512) (j : Fin 1) :
    k1_pay9 (F := Ideal) (k1_pay5 v0) (k1_pay6 (F := Ideal) v0) (k1_pay7 (F := Ideal) v0) (ix2 i j) = rowScaleW (fun k => v0 (ix2 i k)) :=
  congrArg (Ideal.ofBits .f32) (k1_pay8_at v0 i j)

/-- The codes from the reciprocal scales' words. -/
theorem k1_pay10_var (v1 : FVec Ideal S512x4224 .bf16) (v7 : FVec Ideal S512x1 .f32) (v43 v45 : IVec S512x1 32) (i : Fin 512) (j : Fin 4224) :
    k1_pay10 (F := Ideal) v1 v7 v43 v45 (ix2 i j)
      = code5 (v1 (ix2 i j)) (Ideal.ofBits .f32 (IntOp.subi 2130706432#32 (k1_pay8 (F := Ideal) v7 v43 v45 (ix2 i 0)))) := by
  unfold k1_pay10
  generalize k1_pay8 (F := Ideal) v7 v43 v45 = p
  pointwise [code5]

/-- A row's codes. -/
theorem k1_pay10_at (v0 : FVec Ideal S512x4224 .bf16) (i : Fin 512) (j : Fin 4224) :
    k1_pay10 (F := Ideal) (k1_pay4 v0) (k1_pay5 v0) (k1_pay6 (F := Ideal) v0) (k1_pay7 (F := Ideal) v0) (ix2 i j)
      = code5 (v0 (ix2 i j)) (rowInvW (fun k => v0 (ix2 i k))) := by
  rw [k1_pay10_var, k1_pay8_at, k1_pay4_eq]
  unfold rowInvW invWord
  rfl

/-- The product, times a column and one number. -/
theorem k1_pay3_var (v57 : FVec Ideal S512x1 .f32) (v68 : FVec Ideal S512x4224 .fp8e5m2) (w : FVec Ideal S4224x1152 .fp8e4m3) (s : EReal)
    (i : Fin 512) (j : Fin 1152) :
    k1_pay3 (F := Ideal) v57 v68 w s (ix2 i j) = (∑ k, v68 (ix2 i k) * w (ix2 k j)) * v57 (ix2 i 0) * s := by
  pointwise [k1_pay3]

/-- The product of the codes, times the row's scale and the weight's. -/
theorem k1_pay3_at (v0 : FVec Ideal S512x4224 .bf16) (w : FVec Ideal S4224x1152 .fp8e4m3) (s : EReal) (i : Fin 512) (j : Fin 1152) :
    k1_pay3 (F := Ideal) (k1_pay9 (k1_pay5 v0) (k1_pay6 (F := Ideal) v0) (k1_pay7 (F := Ideal) v0))
        (k1_pay10 (k1_pay4 v0) (k1_pay5 v0) (k1_pay6 (F := Ideal) v0) (k1_pay7 (F := Ideal) v0)) w s (ix2 i j)
      = (∑ k : Fin 4224, code5 (v0 (ix2 i k)) (rowInvW (fun l => v0 (ix2 i l))) * w (ix2 k j)) * rowScaleW (fun l => v0 (ix2 i l)) * s := by
  rw [k1_pay3_var, k1_pay9_at]
  simp only [k1_pay10_at]

end Cert.KernelIdeal.Pay

end
-- ==== Proof.RowRegion.lean ====
/- What the token blocks' region leaves in its three arrays. -/
module

public import proofs.«01_k».proof.Proof.Gen.KernelIdeal.Frame
public import Idealize.ShloMosaic.Lib.Pipeline.ValueKit
public import proofs.«01_k».proof.Proof.RowPay

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Pay Cert.Spec

variable (V : (c : Dev nD) → (b : Ref sig .tc) → Buf (Elt Ideal) ((c : Thread nD τ).loc b))

/-- The blocks of the region: one number and the whole codes of the weight at every point, 512 rows per point. -/
theorem idx1 : ∀ t : Fin cfg1.N, win1_0.index t = ![0, 0] ∧ win1_1.index t = ![t.val, 0] ∧ win1_2.index t = ![0, 0]
    ∧ win1_3.index t = ![t.val, 0] ∧ win1_4.index t = ![t.val, 0] ∧ win1_5.index t = ![t.val, 0, 0] ∧ t.val < 64 :=
  (by decide +kernel : ∀ t : Fin grid1.N, _)

/-- The arrays the region reads. -/
abbrev sArr (c : Dev nD) : FVec Ideal S1x1 .f32 := V c main_v0_1
abbrev yArr (c : Dev nD) : FVec Ideal S32768x4224 .bf16 := V c main_v1
abbrev wArr (c : Dev nD) : FVec Ideal S4224x1152 .fp8e4m3 := V c main_v0_0

theorem block1_0 (c : Dev nD) (t : Fin cfg1.N) : (iblk1 V c 0 t : FVec Ideal S1x1 .f32) = sArr V c := by
  funext y
  blk_ext [iblk1, idx1 t]

theorem block1_1 (c : Dev nD) (t : Fin cfg1.N) (i : Fin 512) (k : Fin 4224) (h : t.val * 512 + i.val < 32768) :
    (iblk1 V c 1 t : FVec Ideal S512x4224 .bf16) (ix2 i k) = yArr V c (ix2 ⟨t.val * 512 + i.val, h⟩ k) := by
  blk_ext [iblk1, idx1 t]

theorem block1_2 (c : Dev nD) (t : Fin cfg1.N) : (iblk1 V c 2 t : FVec Ideal S4224x1152 .fp8e4m3) = wArr V c := by
  funext y
  blk_ext [iblk1, idx1 t]

/-- One element of the product: a row's codes against a column, times the row's scale and the weight's. -/
def dxRow (y w : Fin 4224 → EReal) (s : EReal) : EReal :=
  (∑ k : Fin 4224, code5 (y k) (rowInvW y) * w k) * rowScaleW y * s

/-- A row of a block is a row of the array. -/
theorem row1 (c : Dev nD) (t : Fin cfg1.N) (i : Fin 512) (r : Fin 32768) (hr : (r : ℕ) = t.val * 512 + i.val) :
    (fun l : Fin 4224 => (iblk1 V c 1 t : FVec Ideal S512x4224 .bf16) (ix2 i l)) = fun l => yArr V c (ix2 r l) := by
  funext l
  have e : r = ⟨t.val * 512 + i.val, hr ▸ r.isLt⟩ := Fin.ext hr
  rw [e]
  exact block1_1 V c t i l _

/-- The element of the product left at one index of a block. -/
theorem point3 (c : Dev nD) (t : Fin cfg1.N) (y : S512x1152.Idx) (r : Fin 32768) (q : Fin 1152) (s : EReal)
    (hr : (r : ℕ) = t.val * 512 + (y 0 : ℕ)) (hq : (q : ℕ) = y 1) (hs : s = sArr V c (ix2 0 0)) :
    k1_pay3 (F := Ideal) (k1_pay9 (k1_pay5 (iblk1 V c 1 t)) (k1_pay6 (iblk1 V c 1 t)) (k1_pay7 (iblk1 V c 1 t)))
      (k1_pay10 (k1_pay4 (iblk1 V c 1 t)) (k1_pay5 (iblk1 V c 1 t)) (k1_pay6 (iblk1 V c 1 t)) (k1_pay7 (iblk1 V c 1 t)))
      (iblk1 V c 2 t) s y
      = dxRow (fun l => yArr V c (ix2 r l)) (fun k => wArr V c (ix2 k q)) (sArr V c (ix2 0 0)) := by
  idx_vars y
  obtain rfl : q = y1 := Fin.ext hq
  subst hs
  refine (k1_pay3_at (iblk1 V c 1 t) (iblk1 V c 2 t) _ y0 q).trans ?_
  have h := row1 V c t y0 r hr
  rw [block1_2]
  unfold dxRow
  rw [← h]

/-- The code left at one index of a block. -/
theorem point4 (c : Dev nD) (t : Fin cfg1.N) (y : S512x4224.Idx) (r : Fin 32768) (q : Fin 4224)
    (hr : (r : ℕ) = t.val * 512 + (y 0 : ℕ)) (hq : (q : ℕ) = y 1) :
    k1_pay10 (F := Ideal) (k1_pay4 (iblk1 V c 1 t)) (k1_pay5 (iblk1 V c 1 t)) (k1_pay6 (iblk1 V c 1 t)) (k1_pay7 (iblk1 V c 1 t)) y
      = code5 (yArr V c (ix2 r q)) (rowInvW fun l => yArr V c (ix2 r l)) := by
  idx_vars y
  obtain rfl : q = y1 := Fin.ext hq
  refine (k1_pay10_at (iblk1 V c 1 t) y0 q).trans ?_
  have h := row1 V c t y0 r hr
  rw [← h]
  exact congrArg (fun e : EReal => code5 e _) (congrFun h q)

/-- The scale of one row of a block. -/
theorem point5 (c : Dev nD) (t : Fin cfg1.N) (i : Fin 512) (r : Fin 32768) (hr : (r : ℕ) = t.val * 512 + i.val) :
    k1_pay9 (F := Ideal) (k1_pay5 (iblk1 V c 1 t)) (k1_pay6 (iblk1 V c 1 t)) (k1_pay7 (iblk1 V c 1 t)) (ix2 i 0)
      = rowScaleW fun l => yArr V c (ix2 r l) := by
  rw [← row1 V c t i r hr]
  exact k1_pay9_at (iblk1 V c 1 t) i 0

/-- The product's array after the region. -/
theorem dx1 (c : Dev nD) : (dat1 V c).arrAt 3 cfg1.N
    = fun i => dxRow (fun l => yArr V c (ix2 (i 0) l)) (fun k => wArr V c (ix2 k (i 1))) (sArr V c (ix2 0 0)) := by
  refine (dat1 V c).arrAt_eq_of_covers 3 _ (by decide +kernel) fun t _ y => ?_
  blk_simp
  rw [after1_3]; unfold Gen.outsAt1
  frame_out
  refine point3 V c t y _ _ _ ?_ ?_ ?_
  · blk_simp [idx1 t]
  · blk_simp [idx1 t]
  · rw [block1_0]
    exact congrArg (sArr V c) (funext fun a => Fin.ext (by fin_cases a <;> rfl))

/-- The codes' array after the region. -/
theorem codes1 (c : Dev nD) : (dat1 V c).arrAt 4 cfg1.N
    = fun i => code5 (yArr V c (ix2 (i 0) (i 1))) (rowInvW (fun l : Fin 4224 => yArr V c (ix2 (i 0) l))) := by
  refine (dat1 V c).arrAt_eq_of_covers 4 _ (by decide +kernel) fun t _ y => ?_
  blk_simp
  rw [after1_4]; unfold Gen.outsAt1
  frame_out
  refine point4 V c t y _ _ ?_ ?_
  · blk_simp [idx1 t]
  · blk_simp [idx1 t]

/-- The four pieces of the scales' block, a piece of 128 rows each. -/
theorem pay11_at (v7 : FVec Ideal S512x1 .f32) (v43 v45 : IVec S512x1 32) (i j : Fin 1) (k : Fin 128) :
    k1_pay11 (F := Ideal) v7 v43 v45 (ix3 i j k) = k1_pay9 (F := Ideal) v7 v43 v45 (ix2 ⟨k.val, by omega⟩ 0) := by
  unfold k1_pay11
  generalize k1_pay9 (F := Ideal) v7 v43 v45 = p
  pointwise
theorem pay12_at (v7 : FVec Ideal S512x1 .f32) (v43 v45 : IVec S512x1 32) (i j : Fin 1) (k : Fin 128) :
    k1_pay12 (F := Ideal) v7 v43 v45 (ix3 i j k) = k1_pay9 (F := Ideal) v7 v43 v45 (ix2 ⟨128 + k.val, by omega⟩ 0) := by
  unfold k1_pay12
  generalize k1_pay9 (F := Ideal) v7 v43 v45 = p
  pointwise
theorem pay13_at (v7 : FVec Ideal S512x1 .f32) (v43 v45 : IVec S512x1 32) (i j : Fin 1) (k : Fin 128) :
    k1_pay1 (F := Ideal) (k1_pay13 v7 v43 v45) (ix3 i j k) = k1_pay9 (F := Ideal) v7 v43 v45 (ix2 ⟨256 + k.val, by omega⟩ 0) := by
  unfold k1_pay1 k1_pay13
  generalize k1_pay9 (F := Ideal) v7 v43 v45 = p
  pointwise
theorem pay2_at (p : FVec Ideal S512x1 .f32) (i j : Fin 1) (k : Fin 128) :
    k1_pay2 (F := Ideal) p (ix3 i j k) = p (ix2 ⟨384 + k.val, by omega⟩ 0) := by
  pointwise [k1_pay2]

/-- The scale left at one index of each piece. -/
theorem piece11 (c : Dev nD) (t : Fin cfg1.N) (x : S1x1x128.Idx) (r : Fin 32768)
    (hr : (r : ℕ) = t.val * 512 + (0 + (x 2 : ℕ))) :
    k1_pay11 (F := Ideal) (k1_pay5 (iblk1 V c 1 t)) (k1_pay6 (iblk1 V c 1 t)) (k1_pay7 (iblk1 V c 1 t)) x
      = rowScaleW fun l => yArr V c (ix2 r l) := by
  obtain ⟨i, j, k, rfl⟩ : ∃ i j k, x = ix3 i j k := ⟨x 0, x 1, x 2, eq_ix3 x⟩
  refine (pay11_at _ _ _ i j k).trans (point5 V c t _ r ?_)
  simpa using hr
theorem piece12 (c : Dev nD) (t : Fin cfg1.N) (x : S1x1x128.Idx) (r : Fin 32768)
    (hr : (r : ℕ) = t.val * 512 + (128 + (x 2 : ℕ))) :
    k1_pay12 (F := Ideal) (k1_pay5 (iblk1 V c 1 t)) (k1_pay6 (iblk1 V c 1 t)) (k1_pay7 (iblk1 V c 1 t)) x
      = rowScaleW fun l => yArr V c (ix2 r l) := by
  obtain ⟨i, j, k, rfl⟩ : ∃ i j k, x = ix3 i j k := ⟨x 0, x 1, x 2, eq_ix3 x⟩
  refine (pay12_at _ _ _ i j k).trans (point5 V c t _ r ?_)
  simpa using hr
theorem piece13 (c : Dev nD) (t : Fin cfg1.N) (x : S1x1x128.Idx) (r : Fin 32768)
    (hr : (r : ℕ) = t.val * 512 + (256 + (x 2 : ℕ))) :
    k1_pay1 (F := Ideal) (k1_pay13 (k1_pay5 (iblk1 V c 1 t)) (k1_pay6 (iblk1 V c 1 t)) (k1_pay7 (iblk1 V c 1 t))) x
      = rowScaleW fun l => yArr V c (ix2 r l) := by
  obtain ⟨i, j, k, rfl⟩ : ∃ i j k, x = ix3 i j k := ⟨x 0, x 1, x 2, eq_ix3 x⟩
  refine (pay13_at _ _ _ i j k).trans (point5 V c t _ r ?_)
  simpa using hr
theorem piece2 (c : Dev nD) (t : Fin cfg1.N) (x : S1x1x128.Idx) (r : Fin 32768)
    (hr : (r : ℕ) = t.val * 512 + (384 + (x 2 : ℕ))) :
    k1_pay2 (F := Ideal) (k1_pay9 (k1_pay5 (iblk1 V c 1 t)) (k1_pay6 (iblk1 V c 1 t)) (k1_pay7 (iblk1 V c 1 t))) x
      = rowScaleW fun l => yArr V c (ix2 r l) := by
  obtain ⟨i, j, k, rfl⟩ : ∃ i j k, x = ix3 i j k := ⟨x 0, x 1, x 2, eq_ix3 x⟩
  refine (pay2_at _ i j k).trans (point5 V c t _ r ?_)
  simpa using hr
/-- The scales' array after the region. -/
theorem scale1 (c : Dev nD) : (dat1 V c).arrAt 5 cfg1.N
    = fun i : S64x4x128.Idx => rowScaleW (fun l : Fin 4224 => yArr V c (ix2 ⟨(i 0 : ℕ) * 512 + (i 1 : ℕ) * 128 + (i 2 : ℕ), by idx_bounds; omega⟩ l)) := by
  refine (dat1 V c).arrAt_eq_of_covers 5 _ (by decide +kernel) fun t _ y => ?_
  blk_simp
  rw [after1_5]; unfold Gen.outsAt1
  frame_out
  canon_tiles x h
  · refine piece2 V c t x _ ?_
    blk_simp [idx1 t]
    show t.val * 512 + (y 1 : ℕ) * 128 + (y 2 : ℕ) = _
    omega
  · refine piece13 V c t x _ ?_
    blk_simp [idx1 t]
    show t.val * 512 + (y 1 : ℕ) * 128 + (y 2 : ℕ) = _
    omega
  · refine piece12 V c t x _ ?_
    blk_simp [idx1 t]
    show t.val * 512 + (y 1 : ℕ) * 128 + (y 2 : ℕ) = _
    omega
  · refine piece11 V c t x _ ?_
    blk_simp [idx1 t]
    show t.val * 512 + (y 1 : ℕ) * 128 + (y 2 : ℕ) = _
    omega

end Cert.KernelIdeal.Value

end
-- ==== Proof.KernelValue.lean ====
/- The kernel's five results, read at one index, as functions of the two argument arrays. -/
module

public import proofs.«01_k».proof.Proof.WeightRegion
public import proofs.«01_k».proof.Proof.RowRegion
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Pay Cert.Spec
open Cert.KernelIdeal.Facts

variable (m : (ℓ : Loc nD τ sig) → Buf (Elt Ideal) ℓ) (ρ : Dev nD → PrngReg)

/-- The two arguments. -/
abbrev dyArg (c : Dev nD) : FVec Ideal S8x4096x4224 .bf16 := m ((c.tc : Thread nD τ).loc main_arg0)
abbrev wArg (c : Dev nD) : FVec Ideal S4224x1152 .bf16 := m ((c.tc : Thread nD τ).loc main_arg1)

/-- What the two regions read and leave, through the reshapes between them. -/
theorem read_v1 (c : Dev nD) : yArr (V2 m ρ) c = shapeCast S32768x4224 (dyArg m c) shapeCasts_S8x4096x4224_S32768x4224 := by
  show StableHlo.after hostOps1 (W1 m ρ c) (Proc.devRef .tc main_v1) = _
  after_results
  rw [W1_args m ρ c main_arg0 (by decide)]
  rfl
theorem read_w (c : Dev nD) : wArr (V2 m ρ) c = fun i => code4 (wArg m c i) (matInvW fun a b => wArg m c (ix2 a b)) :=
  (W2_of m ρ c main_v0_0 (by decide)).trans ((W1_arr m ρ c 1).trans (codes0 (V0 m ρ) c))
theorem read_s (c : Dev nD) : sArr (V2 m ρ) c = fun i => matScaleW fun a b => wArg m c (ix2 a b) :=
  (W2_of m ρ c main_v0_1 (by decide)).trans ((W1_arr m ρ c 2).trans (scale0 (V0 m ρ) c))
theorem left_v3 (c : Dev nD) : W4 m ρ c (Proc.devRef .tc main_v3)
    = shapeCast S8x4096x1152 (W3 m ρ c (Proc.devRef .tc main_v2_0)) shapeCasts_S32768x1152_S8x4096x1152 := by
  show StableHlo.after hostOps2 (W3 m ρ c) (Proc.devRef .tc main_v3) = _
  after_results
  rfl
theorem left_v4 (c : Dev nD) : W4 m ρ c (Proc.devRef .tc main_v4)
    = shapeCast S8x4096x4224 (W3 m ρ c (Proc.devRef .tc main_v2_1)) shapeCasts_S32768x4224_S8x4096x4224 := by
  show StableHlo.after hostOps2 (W3 m ρ c) (Proc.devRef .tc main_v4) = _
  after_results
  rfl
theorem left_v5 (c : Dev nD) : W4 m ρ c (Proc.devRef .tc main_v5)
    = shapeCast S8x4096x1 (W3 m ρ c (Proc.devRef .tc main_v2_2)) shapeCasts_S64x4x128_S8x4096x1 := by
  show StableHlo.after hostOps2 (W3 m ρ c) (Proc.devRef .tc main_v5) = _
  after_results
  rfl

/-- The row of the flat array that a pair of leading coordinates names. -/
def row (b : Fin 8) (s : Fin 4096) : Fin 32768 := ⟨b.val * 4096 + s.val, by omega⟩

/-- The four reshapes, read at one index. -/
theorem cast_in (X : FVec Ideal S8x4096x4224 .bf16) (b : Fin 8) (s : Fin 4096) (k : Fin 4224) :
    shapeCast S32768x4224 X shapeCasts_S8x4096x4224_S32768x4224 (ix2 (row b s) k) = X (ix3 b s k) := by
  pointwise
  blk_ext [row]
theorem cast_v3 (X : FVec Ideal S32768x1152 .bf16) (b : Fin 8) (s : Fin 4096) (k : Fin 1152) :
    shapeCast S8x4096x1152 X shapeCasts_S32768x1152_S8x4096x1152 (ix3 b s k) = X (ix2 (row b s) k) := by
  pointwise
  blk_ext [row]
theorem cast_v4 (X : FVec Ideal S32768x4224 .fp8e5m2) (b : Fin 8) (s : Fin 4096) (k : Fin 4224) :
    shapeCast S8x4096x4224 X shapeCasts_S32768x4224_S8x4096x4224 (ix3 b s k) = X (ix2 (row b s) k) := by
  pointwise
  blk_ext [row]
theorem cast_v5 (X : FVec Ideal S64x4x128 .f32) (b : Fin 8) (s : Fin 4096) (u : Fin 1) :
    shapeCast S8x4096x1 X shapeCasts_S64x4x128_S8x4096x1 (ix3 b s u)
      = X (ix3 ⟨(b.val * 4096 + s.val) / 512, by omega⟩ ⟨(b.val * 4096 + s.val) / 128 % 4, by omega⟩ ⟨(b.val * 4096 + s.val) % 128, by omega⟩) := by
  obtain rfl := Subsingleton.elim u 0
  pointwise
  blk_ext

/-- A row that the second region reads. -/
theorem read_row (c : Dev nD) (b : Fin 8) (s : Fin 4096) :
    (fun l : Fin 4224 => yArr (V2 m ρ) c (ix2 (row b s) l)) = fun l => dyArg m c (ix3 b s l) := by
  rw [read_v1]
  exact funext fun l => cast_in _ b s l

/-- The product. -/
theorem dx_at (c : Dev nD) (b : Fin 8) (s : Fin 4096) (j : Fin 1152) :
    (W4 m ρ c (Proc.devRef .tc main_v3) : FVec Ideal S8x4096x1152 .bf16) (ix3 b s j)
      = dxRow (fun l => dyArg m c (ix3 b s l)) (fun k => code4 (wArg m c (ix2 k j)) (matInvW fun a b => wArg m c (ix2 a b)))
          (matScaleW fun a b => wArg m c (ix2 a b)) := by
  rw [left_v3, show W3 m ρ c (Proc.devRef .tc main_v2_0) = _ from (W3_arr m ρ c 3).trans (dx1 (V2 m ρ) c)]
  refine (cast_v3 _ b s j).trans ?_
  have h := read_row m ρ c b s
  show dxRow (fun l => yArr (V2 m ρ) c (ix2 (row b s) l)) (fun k => wArr (V2 m ρ) c (ix2 k j)) (sArr (V2 m ρ) c (ix2 0 0)) = _
  rw [h, read_w, read_s]

/-- The weight's codes and scale. -/
theorem wcodes_at (c : Dev nD) : W4 m ρ c (Proc.devRef .tc main_v0_0)
    = fun i => code4 (wArg m c i) (matInvW fun a b => wArg m c (ix2 a b)) :=
  (W4_of m ρ c main_v0_0 (by decide)).trans ((W3_of m ρ c main_v0_0 (by decide)).trans (read_w m ρ c))
theorem wscale_at (c : Dev nD) : W4 m ρ c (Proc.devRef .tc main_v0_1)
    = fun i => matScaleW fun a b => wArg m c (ix2 a b) :=
  (W4_of m ρ c main_v0_1 (by decide)).trans ((W3_of m ρ c main_v0_1 (by decide)).trans (read_s m ρ c))

/-- The codes of the rows. -/
theorem codes_at (c : Dev nD) (b : Fin 8) (s : Fin 4096) (k : Fin 4224) :
    (W4 m ρ c (Proc.devRef .tc main_v4) : FVec Ideal S8x4096x4224 .fp8e5m2) (ix3 b s k)
      = code5 (dyArg m c (ix3 b s k)) (rowInvW fun l => dyArg m c (ix3 b s l)) := by
  rw [left_v4, show W3 m ρ c (Proc.devRef .tc main_v2_1) = _ from (W3_arr m ρ c 4).trans (codes1 (V2 m ρ) c)]
  refine (cast_v4 _ b s k).trans ?_
  have h := read_row m ρ c b s
  show code5 (yArr (V2 m ρ) c (ix2 (row b s) k)) (rowInvW fun l => yArr (V2 m ρ) c (ix2 (row b s) l)) = _
  rw [h]
  exact congrArg (fun e : EReal => code5 e _) (congrFun h k)

/-- A row's scale depends on the row's number alone. -/
theorem scale_row (Y : FVec Ideal S32768x4224 .bf16) (r r' : Fin 32768) (h : r = r') :
    rowScaleW (fun l : Fin 4224 => Y (ix2 r l)) = rowScaleW fun l : Fin 4224 => Y (ix2 r' l) := by rw [h]

/-- The scales of the rows. -/
theorem scale_at (c : Dev nD) (b : Fin 8) (s : Fin 4096) (u : Fin 1) :
    (W4 m ρ c (Proc.devRef .tc main_v5) : FVec Ideal S8x4096x1 .f32) (ix3 b s u)
      = rowScaleW fun l => dyArg m c (ix3 b s l) := by
  rw [left_v5, show W3 m ρ c (Proc.devRef .tc main_v2_2) = _ from (W3_arr m ρ c 5).trans (scale1 (V2 m ρ) c)]
  refine (cast_v5 _ b s u).trans ?_
  rw [← read_row m ρ c b s]
  refine scale_row _ _ _ (Fin.ext ?_)
  show (b.val * 4096 + s.val) / 512 * 512 + (b.val * 4096 + s.val) / 128 % 4 * 128 + (b.val * 4096 + s.val) % 128 = b.val * 4096 + s.val
  omega

end Cert.KernelIdeal.Value

end
-- ==== Proof.RefPay.lean ====
/- What the reference computes, read at one index: the exponents, the scales, the codes and the product. -/
module

public import proofs.«01_k».proof.Proof.Gen.ReferenceIdeal.Frame
public import proofs.«01_k».proof.Proof.Spec
public import Idealize.ShloMosaic.Lib.Pipeline.ValueKit
public import Idealize.ShloMosaic.Lib.Claim

@[expose] public section

set_option maxRecDepth 16384

noncomputable section

namespace Cert.ReferenceIdeal.Pay

open Idealize.ShloMosaic Idealize.ShloMosaic.TcCoe Idealize.SL.Sem
open Cert.ReferenceIdeal Cert.ReferenceIdeal.Gen Cert.Scale Cert.Spec
open Cert.ReferenceIdeal.Facts

/-- The largest magnitude of each row. -/
theorem rowmax_at (v : FVec Ideal S8x4096x4224 .f32) (b : Fin 8) (s : Fin 4096) :
    multiReduction .maximumf [2] S8x4096 (absf v) 0xFF800000#32 reduces_S8x4096x4224_S8x4096 (.inl rfl) rfl (ix2 b s)
      = amax fun k => v (ix3 b s k) := by
  pointwise
  rw [ofBits_bot32]
  rfl

/-- Widening changes nothing. -/
theorem extf_at (x : FVec Ideal S8x4096x4224 .bf16) (i : S8x4096x4224.Idx) :
    (extf .f32 x bitsLt_bf16_f32 : FVec Ideal S8x4096x4224 .f32) i = (show EReal from x i) := rfl

/-- A reshape that adds an axis of size one. -/
theorem addAxis_at (v : FVec Ideal S8x4096 .f32) (b : Fin 8) (s : Fin 4096) (u : Fin 1) :
    shapeCast S8x4096x1 v shapeCasts_S8x4096_S8x4096x1 (ix3 b s u) = v (ix2 b s) := by
  pointwise

theorem k0_pay10_at (x : FVec Ideal S8x4096x4224 .bf16) (b : Fin 8) (s : Fin 4096) (u : Fin 1) :
    k0_pay10 (F := Ideal) x (ix3 b s u) = amax fun k => x (ix3 b s k) := by
  unfold k0_pay10 k0_pay9
  refine (addAxis_at _ b s u).trans ?_
  refine (rowmax_at (extf .f32 x bitsLt_bf16_f32) b s).trans ?_
  refine congrArg amax (funext fun k => ?_)
  exact extf_at x (ix3 b s k)

/-- The logarithm to the base two. -/
theorem logs_at (p : FVec Ideal S8x4096x1 .f32) (b : Fin 8) (s : Fin 4096) (u : Fin 1) :
    divf (log (mulf p (broadcast S8x4096x1 (Scalar.ofBits .f32 0x37924925#32)))) (broadcast S8x4096x1 (Scalar.log (Scalar.ofBits .f32 0x40000000#32))) (ix3 b s u)
      = Ideal.div (Ideal.log ((show EReal from p (ix3 b s u)) * c5)) (Ideal.log (Ideal.ofBits .f32 0x40000000#32)) := by
  pointwise
  rfl

theorem k0_pay11_at (x : FVec Ideal S8x4096x4224 .bf16) (b : Fin 8) (s : Fin 4096) (u : Fin 1) :
    k0_pay11 (F := Ideal) x (ix3 b s u)
      = Ideal.div (Ideal.log ((amax fun k => x (ix3 b s k)) * c5)) (Ideal.log (Ideal.ofBits .f32 0x40000000#32)) := by
  unfold k0_pay11
  refine (logs_at _ b s u).trans ?_
  exact congrArg (fun e : EReal => Ideal.div (Ideal.log (e * c5)) (Ideal.log (Ideal.ofBits .f32 0x40000000#32))) (k0_pay10_at x b s u)

/-- The exponent, from a row's largest magnitude and the logarithm. -/
theorem k0_pay1_var (p q : FVec Ideal S8x4096x1 .f32) (b : Fin 8) (s : Fin 4096) (u : Fin 1) :
    k0_pay1 (F := Ideal) p q (ix3 b s u) = if p (ix3 b s u) = 0 then 0 else Ideal.liftRound Int.floor (q (ix3 b s u)) + 1 := by
  pointwise [k0_pay1]

theorem k0_pay1_at (x : FVec Ideal S8x4096x4224 .bf16) (b : Fin 8) (s : Fin 4096) (u : Fin 1) :
    k0_pay1 (F := Ideal) (k0_pay10 x) (k0_pay11 x) (ix3 b s u) = expOf (amax fun k => x (ix3 b s k)) c5 := by
  rw [k0_pay1_var, k0_pay10_at, k0_pay11_at]
  rfl

/-- The power of two, elementwise. -/
theorem exp2_at {S : Shape} (v : FVec Ideal S .f32) (i : S.Idx) : (exp2 v : FVec Ideal S .f32) i = Ideal.exp2 (show EReal from v i) := rfl

/-- The scale of each row. -/
theorem k0_pay2_at (x : FVec Ideal S8x4096x4224 .bf16) (b : Fin 8) (s : Fin 4096) (u : Fin 1) :
    k0_pay2 (F := Ideal) (k0_pay10 x) (k0_pay11 x) (ix3 b s u) = rowScale fun k => x (ix3 b s k) := by
  unfold k0_pay2 rowScale
  refine (exp2_at _ _).trans ?_
  rw [k0_pay1_at x b s u]

theorem code5_var (v : FVec Ideal S8x4096x4224 .f32) (e : FVec Ideal S8x4096x1 .f32) (b : Fin 8) (s : Fin 4096) (k : Fin 4224) :
    truncf .fp8e5m2 (minimumf (broadcast S8x4096x4224 (Scalar.ofBits .f32 0x47600000#32)) (maximumf (broadcast S8x4096x4224 (Scalar.ofBits .f32 0xC7600000#32)) (mulf v (broadcastTo S8x4096x4224 (exp2 (subf (broadcast S8x4096x1 (Scalar.ofBits .f32 0x00000000#32)) e)) broadcasts_S8x4096x1_S8x4096x4224)))) bitsLt_fp8e5m2_f32 (ix3 b s k)
      = code5 (v (ix3 b s k)) (Ideal.exp2 (0 - (show EReal from e (ix3 b s 0)))) := by
  pointwise [code5]
  rfl

/-- The codes of each row. -/
theorem k0_pay3_at (x : FVec Ideal S8x4096x4224 .bf16) (b : Fin 8) (s : Fin 4096) (k : Fin 4224) :
    k0_pay3 (F := Ideal) (k0_pay9 x) (k0_pay10 x) (k0_pay11 x) (ix3 b s k)
      = code5 (x (ix3 b s k)) (rowInv fun l => x (ix3 b s l)) := by
  unfold k0_pay3
  refine (code5_var _ _ b s k).trans ?_
  unfold k0_pay9 rowInv
  rw [k0_pay1_at x b s 0, extf_at]

/-- The maximum over both axes at once is the maximum of the columns' maxima. -/
theorem fold_pair {n k : Nat} (f : Fin n → Fin k → EReal) :
    Finset.fold max ⊥ (fun x : Fin n × Fin k => f x.1 x.2) Finset.univ
      = Finset.univ.fold max ⊥ fun j => Finset.univ.fold max ⊥ fun i => f i j := by
  have h := Finset.sup_product_right (Finset.univ : Finset (Fin n)) (Finset.univ : Finset (Fin k)) (fun x : Fin n × Fin k => f x.1 x.2)
  rw [Finset.univ_product_univ] at h
  exact h

/-- The largest magnitude of the weight. -/
theorem matmax_at (v : FVec Ideal S4224x1152 .f32) :
    extractAt ![0, 0, 0] (shapeCast S1x1x1 (multiReduction .maximumf [1, 2] S1 (shapeCast S1x4224x1152 (absf v) shapeCasts_S4224x1152_S1x4224x1152) 0xFF800000#32 reduces_S1x4224x1152_S1 (.inl rfl) rfl) shapeCasts_S1_S1x1x1) inpos_S1x1x1_p0_0_0
      = amax2 fun i j => v (ix2 i j) := by
  pointwise
  rw [ofBits_bot32]
  exact fold_pair fun i j => FloatOps.absf (F := Ideal) (φ := .f32) (v (ix2 i j))

/-- The exponent of the weight's scale, from its largest magnitude. -/
theorem matexp_at (a : EReal) (i j : Fin 1) :
    select (cmpf (F := Ideal) .oeq (broadcast S1x1 (show Ideal .f32 from a)) (broadcast S1x1 (Scalar.ofBits .f32 0x00000000#32))) (broadcast S1x1 (Scalar.ofBits .f32 0x00000000#32)) (addf (floor (divf (log (mulf (broadcast S1x1 (show Ideal .f32 from a)) (broadcast S1x1 (Scalar.ofBits .f32 0x3B124925#32)))) (broadcast S1x1 (Scalar.log (Scalar.ofBits .f32 0x40000000#32))))) (broadcast S1x1 (Scalar.ofBits .f32 0x3F800000#32))) (ix2 i j)
      = expOf a c4 := by
  pointwise [expOf]
  rfl

theorem k0_pay6_at (w : FVec Ideal S4224x1152 .bf16) (i j : Fin 1) :
    k0_pay6 (F := Ideal) w (ix2 i j) = expOf (amax2 fun a b => w (ix2 a b)) c4 := by
  unfold k0_pay6
  refine (matexp_at _ i j).trans ?_
  exact congrArg (fun e : EReal => expOf e c4) (matmax_at (k0_pay5 w))

/-- The weight's scale. -/
theorem k0_pay7_at (w : FVec Ideal S4224x1152 .bf16) (i j : Fin 1) :
    k0_pay7 (F := Ideal) w (ix2 i j) = matScale fun a b => w (ix2 a b) := by
  unfold k0_pay7 matScale
  refine (exp2_at _ _).trans ?_
  rw [k0_pay6_at w i j]

theorem code4_var (v : FVec Ideal S4224x1152 .f32) (e : FVec Ideal S1x1 .f32) (i : Fin 4224) (j : Fin 1152) :
    truncf .fp8e4m3 (minimumf (broadcast S4224x1152 (Scalar.ofBits .f32 0x43E00000#32)) (maximumf (broadcast S4224x1152 (Scalar.ofBits .f32 0xC3E00000#32)) (mulf v (broadcastTo S4224x1152 (exp2 (subf (broadcast S1x1 (Scalar.ofBits .f32 0x00000000#32)) e)) broadcasts_S1x1_S4224x1152)))) bitsLt_fp8e4m3_f32 (ix2 i j)
      = code4 (v (ix2 i j)) (Ideal.exp2 (0 - (show EReal from e (ix2 0 0)))) := by
  pointwise [code4]
  rfl

theorem extfw_at (x : FVec Ideal S4224x1152 .bf16) (i : S4224x1152.Idx) :
    (extf .f32 x bitsLt_bf16_f32 : FVec Ideal S4224x1152 .f32) i = (show EReal from x i) := rfl

/-- The weight's codes. -/
theorem k0_pay8_at (w : FVec Ideal S4224x1152 .bf16) (i : Fin 4224) (j : Fin 1152) :
    k0_pay8 (F := Ideal) w (ix2 i j) = code4 (w (ix2 i j)) (matInv fun a b => w (ix2 a b)) := by
  unfold k0_pay8
  refine (code4_var _ _ i j).trans ?_
  unfold k0_pay5 matInv
  rw [k0_pay6_at w 0 0, extfw_at]

/-- The product, from codes and scales. -/
theorem prod_var (q : FVec Ideal S8x4096x4224 .fp8e5m2) (wq : FVec Ideal S4224x1152 .fp8e4m3) (ds : FVec Ideal S8x4096x1 .f32) (ws : FVec Ideal S1x1 .f32)
    (b : Fin 8) (s : Fin 4096) (j : Fin 1152) :
    truncf .bf16 (mulf (mulf (matmul dot_S8x4096x4224_S4224x1152_S8x4096x1152_2_0_01_1_n_n none q wq (constant S8x4096x1152 .f32 0x00000000#32))
      (broadcastTo S8x4096x1152 ds broadcasts_S8x4096x1_S8x4096x1152)) (broadcastTo S8x4096x1152 (shapeCast S1x1x1 ws shapeCasts_S1x1_S1x1x1) broadcasts_S1x1x1_S8x4096x1152)) bitsLt_bf16_f32 (ix3 b s j)
      = (∑ k : Fin 4224, (show EReal from q (ix3 b s k)) * (show EReal from wq (ix2 k j))) * (show EReal from ds (ix3 b s 0)) * (show EReal from ws (ix2 0 0)) := by
  pointwise

/-- The product. -/
theorem k0_pay4_at (x : FVec Ideal S8x4096x4224 .bf16) (w : FVec Ideal S4224x1152 .bf16) (b : Fin 8) (s : Fin 4096) (j : Fin 1152) :
    k0_pay4 (F := Ideal) (k0_pay7 w) (k0_pay8 w) (k0_pay9 x) (k0_pay10 x) (k0_pay11 x) (ix3 b s j)
      = (∑ k : Fin 4224, code5 (x (ix3 b s k)) (rowInv fun l => x (ix3 b s l)) * code4 (w (ix2 k j)) (matInv fun a b => w (ix2 a b)))
        * (rowScale fun l => x (ix3 b s l)) * (matScale fun a b => w (ix2 a b)) := by
  unfold k0_pay4
  refine (prod_var _ _ _ _ b s j).trans ?_
  simp only [k0_pay3_at, k0_pay8_at, k0_pay2_at, k0_pay7_at]

end Cert.ReferenceIdeal.Pay

end
-- ==== Proof.RefValue.lean ====
/- The reference's five results, read at one index, as functions of the two argument arrays. -/
module

public import proofs.«01_k».proof.Proof.Gen.ReferenceIdeal.Value
public import proofs.«01_k».proof.Proof.RefPay

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Pay Cert.Spec

variable (x : FVec Ideal S8x4096x4224 .bf16) (w : FVec Ideal S4224x1152 .bf16)

/-- The reference reads its whole arguments. -/
theorem pay12_eq : k0_pay12 (F := Ideal) x w = k0_pay7 w := by unfold k0_pay12; rw [View.ld_unit_zero hz1]
theorem pay13_eq : k0_pay13 (F := Ideal) x w = k0_pay8 w := by unfold k0_pay13; rw [View.ld_unit_zero hz1]
theorem pay14_eq : k0_pay14 (F := Ideal) x w = k0_pay9 x := by unfold k0_pay14; rw [View.ld_unit_zero hz0]
theorem pay15_eq : k0_pay15 (F := Ideal) x w = k0_pay10 x := by unfold k0_pay15; rw [View.ld_unit_zero hz0]
theorem pay16_eq : k0_pay16 (F := Ideal) x w = k0_pay11 x := by unfold k0_pay16; rw [View.ld_unit_zero hz0]

/-- The product. -/
theorem G2_at (b : Fin 8) (s : Fin 4096) (j : Fin 1152) : G2 (F := Ideal) x w (ix3 b s j)
    = (∑ k : Fin 4224, code5 (x (ix3 b s k)) (rowInv fun l => x (ix3 b s l)) * code4 (w (ix2 k j)) (matInv fun a b => w (ix2 a b)))
        * (rowScale fun l => x (ix3 b s l)) * (matScale fun a b => w (ix2 a b)) := by
  unfold G2
  rw [pay12_eq, pay13_eq, pay14_eq, pay15_eq, pay16_eq]
  exact k0_pay4_at x w b s j
/-- The weight's codes. -/
theorem G3_at (i : Fin 4224) (j : Fin 1152) : G3 (F := Ideal) x w (ix2 i j) = code4 (w (ix2 i j)) (matInv fun a b => w (ix2 a b)) := by
  unfold G3
  rw [pay13_eq]
  exact k0_pay8_at w i j
/-- The weight's scale. -/
theorem G4_at (i j : Fin 1) : G4 (F := Ideal) x w (ix2 i j) = matScale fun a b => w (ix2 a b) := by
  unfold G4
  rw [pay12_eq]
  exact k0_pay7_at w i j
/-- The rows' codes. -/
theorem G5_at (b : Fin 8) (s : Fin 4096) (k : Fin 4224) : G5 (F := Ideal) x w (ix3 b s k) = code5 (x (ix3 b s k)) (rowInv fun l => x (ix3 b s l)) := by
  unfold G5
  rw [pay14_eq, pay15_eq, pay16_eq]
  exact k0_pay3_at x b s k
/-- The rows' scales. -/
theorem G6_at (b : Fin 8) (s : Fin 4096) (u : Fin 1) : G6 (F := Ideal) x w (ix3 b s u) = rowScale fun l => x (ix3 b s l) := by
  unfold G6
  rw [pay15_eq, pay16_eq]
  exact k0_pay2_at x b s u

end Cert.ReferenceIdeal.Value

end
-- ==== Proof.PreFacts.lean ====
/- What the precondition says: every scale is a normal number whose reciprocal is one. -/
module

public import proofs.«01_k».proof.Proof.Gen.Pre_normal_scales
public import proofs.«01_k».proof.Proof.RefPay

@[expose] public section

set_option maxRecDepth 16384

noncomputable section

namespace Cert.Pre_normal_scales.Read

open Idealize.ShloMosaic Idealize.SL.Sem
open Cert.Pre_normal_scales Cert.Pre_normal_scales.Facts Cert.Scale Cert.Spec

/-- The constants. -/
theorem big : Ideal.ofBits .f32 0x7F7F0000#32 = ((338953138925153547590470800371487866880 : ℝ) : EReal) := by
  simp [Ideal.ofBits, Ideal.ieee, -EReal.coe_mul]; norm_num
theorem tiny : Ideal.ofBits .f32 0x00800000#32 = (((2 : ℝ) ^ (-126 : ℤ) : ℝ) : EReal) := by
  simp [Ideal.ofBits, Ideal.ieee, -EReal.coe_mul]; norm_num
theorem c5_val : c5 = (((9586981 : ℝ) / 2 ^ 39 : ℝ) : EReal) := by
  simp [c5, Ideal.ofBits, Ideal.ieee, -EReal.coe_mul]; norm_num
theorem c4_val : c4 = (((9586981 : ℝ) / 2 ^ 32 : ℝ) : EReal) := by
  simp [c4, Ideal.ofBits, Ideal.ieee, -EReal.coe_mul]; norm_num

/-- Zero or between the two bounds: then the scale is normal. -/
theorem normal_of {a c : EReal} {k : ℝ} (hc : c = (k : EReal)) (hk : 0 < k) (hk1 : k < 1 / 4)
    (h1 : a ≤ Ideal.ofBits .f32 0x7F7F0000#32) (h2 : a = 0 ∨ Ideal.ofBits .f32 0x00800000#32 ≤ a * c) : Normal a c := by
  rcases h2 with h2 | h2
  · exact .inl h2
  rw [big] at h1
  rw [tiny] at h2
  subst hc
  have hbot : a ≠ ⊥ := by
    rintro rfl
    rw [EReal.bot_mul_coe_of_pos hk] at h2
    exact absurd h2 (by simp)
  have htop : a ≠ ⊤ := by
    rintro rfl
    exact absurd h1 (not_le.mpr (EReal.coe_lt_top _))
  lift a to ℝ using ⟨htop, hbot⟩
  rw [← EReal.coe_mul, EReal.coe_le_coe_iff] at h2
  rw [EReal.coe_le_coe_iff] at h1
  refine .inr ⟨a * k, by rw [EReal.coe_mul], h2, ?_⟩
  have ha : 0 < a := by
    by_contra hneg
    have h3 : a * k ≤ 0 := mul_nonpos_of_nonpos_of_nonneg (not_lt.mp hneg) hk.le
    have h4 : (0 : ℝ) < 2 ^ (-126 : ℤ) := by positivity
    linarith
  have h5 : a * k < a * (1 / 4) := mul_lt_mul_of_pos_left hk1 ha
  have h6 : (338953138925153547590470800371487866880 : ℝ) * (1 / 4) ≤ 2 ^ (126 : ℤ) := by norm_num
  linarith

/-- The rows' largest magnitudes, as the predicate computes them. -/
theorem rowmax_at (v : FVec Ideal S8x4096x4224 .f32) (b : Fin 8) (s : Fin 4096) :
    Host.reduce FloatOps.maximumf (Host.absf v) (constant S_ .f32 0xFF800000#32 : FVec Ideal S_ .f32) reducesTo_S8x4096x4224_S8x4096_d2 h_S_ (ix2 b s)
      = amax fun k => v (ix3 b s k) := by
  pointwise
  rw [ofBits_bot32]
  rfl

/-- The weight's largest magnitude, as the predicate computes it. -/
theorem matmax_at (v : FVec Ideal S4224x1152 .f32) (i : S_.Idx) :
    Host.reduce FloatOps.maximumf (Host.absf v) (constant S_ .f32 0xFF800000#32 : FVec Ideal S_ .f32) reducesTo_S4224x1152_S_d0_1 h_S_ i
      = amax2 fun a b => v (ix2 a b) := by
  pointwise
  rw [ofBits_bot32]
  exact Cert.ReferenceIdeal.Pay.fold_pair fun a b => FloatOps.absf (F := Ideal) (φ := .f32) (v (ix2 a b))

/-- The bits of the test. -/
theorem bits {p q r : Prop} [Decidable p] [Decidable q] [Decidable r]
    (h : IntOp.andi (BitVec.ofBool (decide p)) (IntOp.ori (BitVec.ofBool (decide q)) (BitVec.ofBool (decide r))) = 1#1) : p ∧ (q ∨ r) := by
  by_cases hp : p <;> by_cases hq : q <;> by_cases hr : r <;> simp_all [IntOp.andi, IntOp.ori]

/-- The test of one row. -/
theorem rowtest_at (p : FVec Ideal S8x4096 .f32) (i : S8x4096.Idx)
    (h : andi (cmpf .ole p (broadcastInDim S8x4096 ![] bcast_S_S8x4096 (constant S_ .f32 0x7F7F0000#32)))
      (ori (cmpf .oeq p (broadcastInDim S8x4096 ![] bcast_S_S8x4096 (constant S_ .f32 0x00000000#32)))
        (cmpf .oge (mulf p (broadcastInDim S8x4096 ![] bcast_S_S8x4096 (constant S_ .f32 0x37924925#32)))
          (broadcastInDim S8x4096 ![] bcast_S_S8x4096 (constant S_ .f32 0x00800000#32)))) i = 1#1) :
    Normal (p i) c5 := by
  idx_vars i
  revert h
  pointwise
  intro h
  have h2 := bits h
  exact normal_of c5_val (by norm_num) (by norm_num) h2.1 h2.2

/-- The test of the weight. -/
theorem mattest_at (p : FVec Ideal S_ .f32) (i : S_.Idx)
    (h : andi (cmpf .ole p (constant S_ .f32 0x7F7F0000#32))
      (ori (cmpf .oeq p (constant S_ .f32 0x00000000#32))
        (cmpf .oge (mulf p (constant S_ .f32 0x3B124925#32)) (constant S_ .f32 0x00800000#32))) i = 1#1) :
    Normal (p i) c4 := by
  revert h
  pointwise
  intro h
  have h2 := bits h
  exact normal_of c4_val (by norm_num) (by norm_num) h2.1 h2.2

/-- Under the precondition the scale of every row is normal. -/
theorem row_normal (x : FVec Ideal S8x4096x4224 .bf16) (w : FVec Ideal S4224x1152 .bf16)
    (h : (fn (F := Ideal) x w).1 = fun _ => 1#1) (b : Fin 8) (s : Fin 4096) : Normal (amax fun k => x (ix3 b s k)) c5 := by
  have h1 := rowtest_at _ (ix2 b s) (congrFun h (ix2 b s))
  dsimp only at h1
  rw [rowmax_at] at h1
  exact h1

/-- Under the precondition the scale of the weight is normal. -/
theorem mat_normal (x : FVec Ideal S8x4096x4224 .bf16) (w : FVec Ideal S4224x1152 .bf16)
    (h : (fn (F := Ideal) x w).2 = fun _ => 1#1) : Normal (amax2 fun a b => w (ix2 a b)) c4 := by
  have h1 := mattest_at _ (fun a => a.elim0) (congrFun h (fun a => a.elim0))
  dsimp only at h1
  rw [matmax_at] at h1
  exact h1

end Cert.Pre_normal_scales.Read

end
-- ==== Proof.Equation.lean ====
/- The equation: under the precondition the kernel's five results are the reference's. -/
module

public import proofs.«01_k».proof.Proof.KernelValue
public import proofs.«01_k».proof.Proof.RefValue
public import proofs.«01_k».proof.Proof.PreFacts

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec Cert.Scale
open Cert.ReferenceIdeal.Value (G2 G3 G4 G5 G6 G2_at G3_at G4_at G5_at G6_at)

variable (m : (ℓ : Loc nD τ sig) → Buf (Elt Ideal) ℓ) (ρ : Dev nD → PrngReg) (c : Dev nD)

section
variable (hy : ∀ (b : Fin 8) (s : Fin 4096), Normal (amax fun l : Fin 4224 => dyArg m c (ix3 b s l)) c5)
variable (hw : Normal (amax2 fun (a : Fin 4224) (b : Fin 1152) => wArg m c (ix2 a b)) c4)
include hy hw

/-- The product. -/
theorem dx_eq : (W4 m ρ c (Proc.devRef .tc main_v3) : FVec Ideal S8x4096x1152 .bf16) = G2 (F := Ideal) (dyArg m c) (wArg m c) := by
  funext i
  rw [eq_ix3 i]
  refine (dx_at m ρ c (i 0) (i 1) (i 2)).trans (Eq.trans ?_ (G2_at _ _ (i 0) (i 1) (i 2)).symm)
  unfold dxRow
  rw [rowInvW_eq (hy (i 0) (i 1)), rowScaleW_eq (hy (i 0) (i 1)), matInvW_eq hw, matScaleW_eq hw]

omit hy in
/-- The weight's codes. -/
theorem wcodes_eq : (W4 m ρ c (Proc.devRef .tc main_v0_0) : FVec Ideal S4224x1152 .fp8e4m3) = G3 (F := Ideal) (dyArg m c) (wArg m c) := by
  rw [wcodes_at]
  funext i
  rw [eq_ix2 i, matInvW_eq hw]
  exact (G3_at _ _ (i 0) (i 1)).symm

omit hy in
/-- The weight's scale. -/
theorem wscale_eq : (W4 m ρ c (Proc.devRef .tc main_v0_1) : FVec Ideal S1x1 .f32) = G4 (F := Ideal) (dyArg m c) (wArg m c) := by
  rw [wscale_at]
  funext i
  rw [eq_ix2 i, matScaleW_eq hw]
  exact (G4_at _ _ (i 0) (i 1)).symm

omit hw in
/-- The rows' codes. -/
theorem codes_eq : (W4 m ρ c (Proc.devRef .tc main_v4) : FVec Ideal S8x4096x4224 .fp8e5m2) = G5 (F := Ideal) (dyArg m c) (wArg m c) := by
  funext i
  rw [eq_ix3 i]
  refine (codes_at m ρ c (i 0) (i 1) (i 2)).trans (Eq.trans ?_ (G5_at _ _ (i 0) (i 1) (i 2)).symm)
  rw [rowInvW_eq (hy (i 0) (i 1))]

omit hw in
/-- The rows' scales. -/
theorem scale_eq : (W4 m ρ c (Proc.devRef .tc main_v5) : FVec Ideal S8x4096x1 .f32) = G6 (F := Ideal) (dyArg m c) (wArg m c) := by
  funext i
  rw [eq_ix3 i]
  refine (scale_at m ρ c (i 0) (i 1) (i 2)).trans (Eq.trans ?_ (G6_at _ _ (i 0) (i 1) (i 2)).symm)
  rw [rowScaleW_eq (hy (i 0) (i 1))]

end

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_normal_scales
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem
open Cert.KernelIdeal.Value

/-- The precondition, read: every row's scale and the weight's are normal. -/
theorem normal_rows {m} (h : Cert.Pre_KernelIdeal_normal_scales m) (c : Dev Cert.KernelIdeal.nD) (b : Fin 8) (s : Fin 4096) :
    Cert.Scale.Normal (Cert.Spec.amax fun l : Fin 4224 => dyArg m c (ix3 b s l)) Cert.Spec.c5 :=
  Cert.Pre_normal_scales.Read.row_normal (dyArg m c) (wArg m c) (h c).1 b s
theorem normal_mat {m} (h : Cert.Pre_KernelIdeal_normal_scales m) (c : Dev Cert.KernelIdeal.nD) :
    Cert.Scale.Normal (Cert.Spec.amax2 fun (a : Fin 4224) (b : Fin 1152) => wArg m c (ix2 a b)) Cert.Spec.c4 :=
  Cert.Pre_normal_scales.Read.mat_normal (dyArg m c) (wArg m c) (h c).2

/-- The value claim: the kernel and the reference leave the same five results. -/
theorem value : Cert.algebraic_KernelIdeal_ReferenceIdeal_pre_normal_scales := by
  intro m g m' g' hpre hargs
  refine ⟨fun c => Cert.KernelIdeal.Gen.W4 m g c (Proc.devRef .tc Cert.KernelIdeal.main_v3),
    fun c => Cert.KernelIdeal.Gen.W4 m g c (Proc.devRef .tc Cert.KernelIdeal.main_v0_0),
    fun c => Cert.KernelIdeal.Gen.W4 m g c (Proc.devRef .tc Cert.KernelIdeal.main_v0_1),
    fun c => Cert.KernelIdeal.Gen.W4 m g c (Proc.devRef .tc Cert.KernelIdeal.main_v4),
    fun c => Cert.KernelIdeal.Gen.W4 m g c (Proc.devRef .tc Cert.KernelIdeal.main_v5), run m g, ?_⟩
  refine (θ_run _ _ _).mono (fun r h c => ?_) (Cert.ReferenceIdeal.Value.run m' g')
  obtain ⟨h0, h1, h2, h3, h4, h5, h6⟩ := h c
  have e0 := (hargs c).1
  have e1 := (hargs c).2
  rw [e0, e1] at h0 h1 h2 h3 h4
  exact ⟨h0.trans (dx_eq m g c (normal_rows hpre c) (normal_mat hpre c)).symm,
    h1.trans (wcodes_eq m g c (normal_mat hpre c)).symm,
    h2.trans (wscale_eq m g c (normal_mat hpre c)).symm,
    h3.trans (codes_eq m g c (normal_rows hpre c)).symm,
    h4.trans (scale_eq m g c (normal_rows hpre c)).symm, h5, h6⟩

theorem claim : Cert.Claim :=
  ⟨Cert.Kernel.Gen.facts, Cert.KernelIdeal.Gen.facts, Cert.ReferenceIdeal.Gen.facts, Cert.Pre_normal_scales.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, value⟩

end Cert.Proof

end
